-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v81)) (v2 : (c : Dev Cert.KernelIdeal.nD) → Buf (Elt Ideal) ((c.tc : Thread Cert.KernelIdeal.nD Cert.KernelIdeal.τ).loc Cert.KernelIdeal.main_v244)) (v3 : (c : Dev Cert.KernelIdeal.nD) → Buf (Elt Ideal) ((c.tc : Thread Cert.KernelIdeal.nD Cert.KernelIdeal.τ).loc Cert.KernelIdeal.main_v245)) (v4 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_v244) = v2 c
          ∧ r.2.mem ((c.tc : Thread Cert.KernelIdeal.nD Cert.KernelIdeal.τ).loc Cert.KernelIdeal.main_v245) = v3 c
          ∧ r.2.mem ((c.tc : Thread Cert.KernelIdeal.nD Cert.KernelIdeal.τ).loc Cert.KernelIdeal.main_cst) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v243) = v2 c
          ∧ r.2.mem ((c.tc : Thread Cert.ReferenceIdeal.nD Cert.ReferenceIdeal.τ).loc Cert.ReferenceIdeal.main_v244) = v3 c
          ∧ r.2.mem ((c.tc : Thread Cert.ReferenceIdeal.nD Cert.ReferenceIdeal.τ).loc Cert.ReferenceIdeal.main_cst) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x50x50 : Shape := ⟨4, ![1, 512, 50, 50]⟩
abbrev S2 : Shape := ⟨1, ![2]⟩
abbrev S512x512x3x3 : Shape := ⟨4, ![512, 512, 3, 3]⟩
abbrev S512 : Shape := ⟨1, ![512]⟩
abbrev S36x512x1x1 : Shape := ⟨4, ![36, 512, 1, 1]⟩
abbrev S36 : Shape := ⟨1, ![36]⟩
abbrev S18x512x1x1 : Shape := ⟨4, ![18, 512, 1, 1]⟩
abbrev S18 : Shape := ⟨1, ![18]⟩
abbrev S22500x4 : Shape := ⟨2, ![22500, 4]⟩
abbrev S512x50x50 : Shape := ⟨3, ![512, 50, 50]⟩
abbrev S50x50x512 : Shape := ⟨3, ![50, 50, 512]⟩
abbrev S_ : Shape := ⟨0, ![]⟩
abbrev S52x52x512 : Shape := ⟨3, ![52, 52, 512]⟩
abbrev S2704x512 : Shape := ⟨2, ![2704, 512]⟩
abbrev S8x512 : Shape := ⟨2, ![8, 512]⟩
abbrev S2712x512 : Shape := ⟨2, ![2712, 512]⟩
abbrev S2600x512 : Shape := ⟨2, ![2600, 512]⟩
abbrev S512x512x1x1 : Shape := ⟨4, ![512, 512, 1, 1]⟩
abbrev S512x512 : Shape := ⟨2, ![512, 512]⟩
abbrev S1x512 : Shape := ⟨2, ![1, 512]⟩
abbrev S50x52x512 : Shape := ⟨3, ![50, 52, 512]⟩
abbrev S2500x512 : Shape := ⟨2, ![2500, 512]⟩
abbrev S36x512 : Shape := ⟨2, ![36, 512]⟩
abbrev S512x36 : Shape := ⟨2, ![512, 36]⟩
abbrev S2500x36 : Shape := ⟨2, ![2500, 36]⟩
abbrev S1x36 : Shape := ⟨2, ![1, 36]⟩
abbrev S18x512 : Shape := ⟨2, ![18, 512]⟩
abbrev S512x18 : Shape := ⟨2, ![512, 18]⟩
abbrev S2500x18 : Shape := ⟨2, ![2500, 18]⟩
abbrev S1x18 : Shape := ⟨2, ![1, 18]⟩
abbrev S1x22500x4 : Shape := ⟨3, ![1, 22500, 4]⟩
abbrev S1x22500x2 : Shape := ⟨3, ![1, 22500, 2]⟩
abbrev S1x50x50x9x2 : Shape := ⟨5, ![1, 50, 50, 9, 2]⟩
abbrev S1x50x50x9 : Shape := ⟨4, ![1, 50, 50, 9]⟩
abbrev S1x50x50x9x1 : Shape := ⟨5, ![1, 50, 50, 9, 1]⟩
abbrev S1x22500 : Shape := ⟨2, ![1, 22500]⟩
abbrev S1 : Shape := ⟨1, ![1]⟩
abbrev S22500 : Shape := ⟨1, ![22500]⟩
abbrev S22500x1 : Shape := ⟨2, ![22500, 1]⟩
abbrev S12000 : Shape := ⟨1, ![12000]⟩
abbrev S12000x1 : Shape := ⟨2, ![12000, 1]⟩
abbrev S12000x4 : Shape := ⟨2, ![12000, 4]⟩
abbrev S1x1 : Shape := ⟨2, ![1, 1]⟩
abbrev S2000 : Shape := ⟨1, ![2000]⟩
abbrev S2000x1 : Shape := ⟨2, ![2000, 1]⟩
abbrev S2000x4 : Shape := ⟨2, ![2000, 4]⟩

abbrev nBuf : Space → Nat
  | .hbm => 511
  | .vmem => 2
  | .smem => 0
  | _ => 0

abbrev hbmTy0_0 (i : Nat) : BufTy := match i % 128 with
  | 0 => ⟨S1x512x50x50, .f32⟩
  | 1 => ⟨S2, .i32⟩
  | 2 => ⟨S512x512x3x3, .f32⟩
  | 3 => ⟨S512, .f32⟩
  | 4 => ⟨S36x512x1x1, .f32⟩
  | 5 => ⟨S36, .f32⟩
  | 6 => ⟨S18x512x1x1, .f32⟩
  | 7 => ⟨S18, .f32⟩
  | 8 => ⟨S22500x4, .f32⟩
  | 9 => ⟨S512x50x50, .f32⟩
  | 10 => ⟨S50x50x512, .f32⟩
  | 11 => ⟨S_, .i32⟩
  | 12 => ⟨S_, .f32⟩
  | 13 => ⟨S52x52x512, .f32⟩
  | 14 => ⟨S2704x512, .f32⟩
  | 15 => ⟨S_, .f32⟩
  | 16 => ⟨S8x512, .f32⟩
  | 17 => ⟨S2712x512, .f32⟩
  | 18 => ⟨S_, .f32⟩
  | 19 => ⟨S2600x512, .f32⟩
  | 20 => ⟨S512x512x1x1, .f32⟩
  | 21 => ⟨S512x512, .f32⟩
  | 22 => ⟨S512x512, .f32⟩
  | 23 => ⟨S2712x512, .f32⟩
  | 24 => ⟨S_, .i32⟩
  | 25 => ⟨S_, .i32⟩
  | 26 => ⟨S2600x512, .f32⟩
  | 27 => ⟨S2600x512, .f32⟩
  | 28 => ⟨S512x512x1x1, .f32⟩
  | 29 => ⟨S512x512, .f32⟩
  | 30 => ⟨S512x512, .f32⟩
  | 31 => ⟨S2712x512, .f32⟩
  | 32 => ⟨S_, .i32⟩
  | 33 => ⟨S_, .i32⟩
  | 34 => ⟨S2600x512, .f32⟩
  | 35 => ⟨S2600x512, .f32⟩
  | 36 => ⟨S512x512x1x1, .f32⟩
  | 37 => ⟨S512x512, .f32⟩
  | 38 => ⟨S512x512, .f32⟩
  | 39 => ⟨S2712x512, .f32⟩
  | 40 => ⟨S_, .i32⟩
  | 41 => ⟨S_, .i32⟩
  | 42 => ⟨S2600x512, .f32⟩
  | 43 => ⟨S2600x512, .f32⟩
  | 44 => ⟨S512x512x1x1, .f32⟩
  | 45 => ⟨S512x512, .f32⟩
  | 46 => ⟨S512x512, .f32⟩
  | 47 => ⟨S2712x512, .f32⟩
  | 48 => ⟨S_, .i32⟩
  | 49 => ⟨S_, .i32⟩
  | 50 => ⟨S2600x512, .f32⟩
  | 51 => ⟨S2600x512, .f32⟩
  | 52 => ⟨S512x512x1x1, .f32⟩
  | 53 => ⟨S512x512, .f32⟩
  | 54 => ⟨S512x512, .f32⟩
  | 55 => ⟨S2712x512, .f32⟩
  | 56 => ⟨S_, .i32⟩
  | 57 => ⟨S_, .i32⟩
  | 58 => ⟨S2600x512, .f32⟩
  | 59 => ⟨S2600x512, .f32⟩
  | 60 => ⟨S512x512x1x1, .f32⟩
  | 61 => ⟨S512x512, .f32⟩
  | 62 => ⟨S512x512, .f32⟩
  | 63 => ⟨S2712x512, .f32⟩
  | 64 => ⟨S_, .i32⟩
  | 65 => ⟨S_, .i32⟩
  | 66 => ⟨S2600x512, .f32⟩
  | 67 => ⟨S2600x512, .f32⟩
  | 68 => ⟨S512x512x1x1, .f32⟩
  | 69 => ⟨S512x512, .f32⟩
  | 70 => ⟨S512x512, .f32⟩
  | 71 => ⟨S2712x512, .f32⟩
  | 72 => ⟨S_, .i32⟩
  | 73 => ⟨S_, .i32⟩
  | 74 => ⟨S2600x512, .f32⟩
  | 75 => ⟨S2600x512, .f32⟩
  | 76 => ⟨S512x512x1x1, .f32⟩
  | 77 => ⟨S512x512, .f32⟩
  | 78 => ⟨S512x512, .f32⟩
  | 79 => ⟨S2712x512, .f32⟩
  | 80 => ⟨S_, .i32⟩
  | 81 => ⟨S_, .i32⟩
  | 82 => ⟨S2600x512, .f32⟩
  | 83 => ⟨S2600x512, .f32⟩
  | 84 => ⟨S512x512x1x1, .f32⟩
  | 85 => ⟨S512x512, .f32⟩
  | 86 => ⟨S512x512, .f32⟩
  | 87 => ⟨S2712x512, .f32⟩
  | 88 => ⟨S_, .i32⟩
  | 89 => ⟨S_, .i32⟩
  | 90 => ⟨S2600x512, .f32⟩
  | 91 => ⟨S2600x512, .f32⟩
  | 92 => ⟨S1x512, .f32⟩
  | 93 => ⟨S2600x512, .f32⟩
  | 94 => ⟨S2600x512, .f32⟩
  | 95 => ⟨S50x52x512, .f32⟩
  | 96 => ⟨S50x50x512, .f32⟩
  | 97 => ⟨S2500x512, .f32⟩
  | 98 => ⟨S_, .f32⟩
  | 99 => ⟨S2500x512, .f32⟩
  | 100 => ⟨S2500x512, .f32⟩
  | 101 => ⟨S36x512, .f32⟩
  | 102 => ⟨S512x36, .f32⟩
  | 103 => ⟨S2500x36, .f32⟩
  | 104 => ⟨S1x36, .f32⟩
  | 105 => ⟨S2500x36, .f32⟩
  | 106 => ⟨S2500x36, .f32⟩
  | 107 => ⟨S18x512, .f32⟩
  | 108 => ⟨S512x18, .f32⟩
  | 109 => ⟨S2500x18, .f32⟩
  | 110 => ⟨S1x18, .f32⟩
  | 111 => ⟨S2500x18, .f32⟩
  | 112 => ⟨S2500x18, .f32⟩
  | 113 => ⟨S1x22500x4, .f32⟩
  | 114 => ⟨S1x22500x2, .f32⟩
  | 115 => ⟨S1x50x50x9x2, .f32⟩
  | 116 => ⟨S_, .f32⟩
  | 117 => ⟨S1x50x50x9, .f32⟩
  | 118 => ⟨S_, .f32⟩
  | 119 => ⟨S1x50x50x9, .f32⟩
  | 120 => ⟨S1x50x50x9, .f32⟩
  | 121 => ⟨S1x50x50x9x1, .f32⟩
  | 122 => ⟨S1x50x50x9x2, .f32⟩
  | 123 => ⟨S1x50x50x9x2, .f32⟩
  | 124 => ⟨S1x50x50x9x2, .f32⟩
  | 125 => ⟨S_, .f32⟩
  | 126 => ⟨S1x50x50x9, .f32⟩
  | 127 => ⟨S1x50x50x9x1, .f32⟩
  | _ => ⟨S1x512x50x50, .f32⟩

abbrev hbmTy0_1 (i : Nat) : BufTy := match i % 128 with
  | 0 => ⟨S1x50x50x9x2, .f32⟩
  | 1 => ⟨S1x50x50x9x2, .f32⟩
  | 2 => ⟨S1x50x50x9x1, .f32⟩
  | 3 => ⟨S1x50x50x9, .f32⟩
  | 4 => ⟨S1x22500, .f32⟩
  | 5 => ⟨S1x22500, .f32⟩
  | 6 => ⟨S1, .i32⟩
  | 7 => ⟨S_, .i32⟩
  | 8 => ⟨S_, .f32⟩
  | 9 => ⟨S1, .i32⟩
  | 10 => ⟨S_, .i32⟩
  | 11 => ⟨S_, .f32⟩
  | 12 => ⟨S22500x4, .f32⟩
  | 13 => ⟨S22500, .f32⟩
  | 14 => ⟨S22500x1, .f32⟩
  | 15 => ⟨S22500, .f32⟩
  | 16 => ⟨S22500x1, .f32⟩
  | 17 => ⟨S22500, .f32⟩
  | 18 => ⟨S22500, .f32⟩
  | 19 => ⟨S22500x1, .f32⟩
  | 20 => ⟨S22500, .f32⟩
  | 21 => ⟨S22500x1, .f32⟩
  | 22 => ⟨S22500, .f32⟩
  | 23 => ⟨S22500, .f32⟩
  | 24 => ⟨S22500x1, .f32⟩
  | 25 => ⟨S22500, .f32⟩
  | 26 => ⟨S_, .f32⟩
  | 27 => ⟨S22500, .f32⟩
  | 28 => ⟨S22500, .f32⟩
  | 29 => ⟨S22500, .f32⟩
  | 30 => ⟨S22500x1, .f32⟩
  | 31 => ⟨S22500, .f32⟩
  | 32 => ⟨S_, .f32⟩
  | 33 => ⟨S22500, .f32⟩
  | 34 => ⟨S22500, .f32⟩
  | 35 => ⟨S22500, .f32⟩
  | 36 => ⟨S22500x1, .f32⟩
  | 37 => ⟨S22500, .f32⟩
  | 38 => ⟨S22500x1, .f32⟩
  | 39 => ⟨S22500, .f32⟩
  | 40 => ⟨S22500x1, .f32⟩
  | 41 => ⟨S22500, .f32⟩
  | 42 => ⟨S22500x1, .f32⟩
  | 43 => ⟨S22500, .f32⟩
  | 44 => ⟨S22500, .f32⟩
  | 45 => ⟨S22500, .f32⟩
  | 46 => ⟨S22500, .f32⟩
  | 47 => ⟨S22500, .f32⟩
  | 48 => ⟨S22500, .f32⟩
  | 49 => ⟨S22500, .f32⟩
  | 50 => ⟨S22500, .f32⟩
  | 51 => ⟨S22500, .f32⟩
  | 52 => ⟨S_, .f32⟩
  | 53 => ⟨S22500, .f32⟩
  | 54 => ⟨S22500, .f32⟩
  | 55 => ⟨S22500, .f32⟩
  | 56 => ⟨S_, .f32⟩
  | 57 => ⟨S22500, .f32⟩
  | 58 => ⟨S22500, .f32⟩
  | 59 => ⟨S22500, .f32⟩
  | 60 => ⟨S_, .f32⟩
  | 61 => ⟨S22500, .f32⟩
  | 62 => ⟨S22500, .f32⟩
  | 63 => ⟨S22500, .f32⟩
  | 64 => ⟨S_, .f32⟩
  | 65 => ⟨S22500, .f32⟩
  | 66 => ⟨S22500, .f32⟩
  | 67 => ⟨S22500, .f32⟩
  | 68 => ⟨S22500x1, .f32⟩
  | 69 => ⟨S22500x1, .f32⟩
  | 70 => ⟨S22500x1, .f32⟩
  | 71 => ⟨S22500x1, .f32⟩
  | 72 => ⟨S22500x4, .f32⟩
  | 73 => ⟨S22500x1, .f32⟩
  | 74 => ⟨S22500, .f32⟩
  | 75 => ⟨S_, .f32⟩
  | 76 => ⟨S_, .f32⟩
  | 77 => ⟨S22500, .f32⟩
  | 78 => ⟨S22500, .f32⟩
  | 79 => ⟨S22500, .f32⟩
  | 80 => ⟨S22500, .f32⟩
  | 81 => ⟨S22500x1, .f32⟩
  | 82 => ⟨S22500, .f32⟩
  | 83 => ⟨S_, .f32⟩
  | 84 => ⟨S_, .f32⟩
  | 85 => ⟨S22500, .f32⟩
  | 86 => ⟨S22500, .f32⟩
  | 87 => ⟨S22500, .f32⟩
  | 88 => ⟨S22500, .f32⟩
  | 89 => ⟨S22500x1, .f32⟩
  | 90 => ⟨S22500, .f32⟩
  | 91 => ⟨S_, .f32⟩
  | 92 => ⟨S_, .f32⟩
  | 93 => ⟨S22500, .f32⟩
  | 94 => ⟨S22500, .f32⟩
  | 95 => ⟨S22500, .f32⟩
  | 96 => ⟨S22500, .f32⟩
  | 97 => ⟨S22500x1, .f32⟩
  | 98 => ⟨S22500, .f32⟩
  | 99 => ⟨S_, .f32⟩
  | 100 => ⟨S_, .f32⟩
  | 101 => ⟨S22500, .f32⟩
  | 102 => ⟨S22500, .f32⟩
  | 103 => ⟨S22500, .f32⟩
  | 104 => ⟨S22500, .f32⟩
  | 105 => ⟨S22500x1, .f32⟩
  | 106 => ⟨S22500x1, .f32⟩
  | 107 => ⟨S22500x1, .f32⟩
  | 108 => ⟨S22500x1, .f32⟩
  | 109 => ⟨S22500x4, .f32⟩
  | 110 => ⟨S22500, .f32⟩
  | 111 => ⟨S_, .f32⟩
  | 112 => ⟨S22500, .f32⟩
  | 113 => ⟨S22500, .i1⟩
  | 114 => ⟨S22500, .f32⟩
  | 115 => ⟨S_, .f32⟩
  | 116 => ⟨S22500, .f32⟩
  | 117 => ⟨S22500, .i1⟩
  | 118 => ⟨S22500, .i1⟩
  | 119 => ⟨S_, .f32⟩
  | 120 => ⟨S_, .f32⟩
  | 121 => ⟨S22500, .f32⟩
  | 122 => ⟨S22500, .f32⟩
  | 123 => ⟨S22500, .f32⟩
  | 124 => ⟨S22500, .i32⟩
  | 125 => ⟨S22500, .f32⟩
  | 126 => ⟨S22500, .i32⟩
  | 127 => ⟨S12000, .i32⟩
  | _ => ⟨S1x512x50x50, .f32⟩

abbrev hbmTy0_2 (i : Nat) : BufTy := match i % 128 with
  | 0 => ⟨S_, .i32⟩
  | 1 => ⟨S12000, .i32⟩
  | 2 => ⟨S12000, .i1⟩
  | 3 => ⟨S_, .i32⟩
  | 4 => ⟨S12000, .i32⟩
  | 5 => ⟨S12000, .i32⟩
  | 6 => ⟨S12000, .i32⟩
  | 7 => ⟨S12000x1, .i32⟩
  | 8 => ⟨S12000x4, .f32⟩
  | 9 => ⟨S_, .i32⟩
  | 10 => ⟨S12000, .i32⟩
  | 11 => ⟨S12000, .i1⟩
  | 12 => ⟨S_, .i32⟩
  | 13 => ⟨S12000, .i32⟩
  | 14 => ⟨S12000, .i32⟩
  | 15 => ⟨S12000, .i32⟩
  | 16 => ⟨S12000x1, .i32⟩
  | 17 => ⟨S12000, .f32⟩
  | 18 => ⟨S12000, .f32⟩
  | 19 => ⟨S_, .f32⟩
  | 20 => ⟨S12000, .f32⟩
  | 21 => ⟨S12000, .i1⟩
  | 22 => ⟨S12000x1, .f32⟩
  | 23 => ⟨S12000, .f32⟩
  | 24 => ⟨S12000x1, .f32⟩
  | 25 => ⟨S12000, .f32⟩
  | 26 => ⟨S12000, .f32⟩
  | 27 => ⟨S12000x1, .f32⟩
  | 28 => ⟨S12000, .f32⟩
  | 29 => ⟨S12000x1, .f32⟩
  | 30 => ⟨S12000, .f32⟩
  | 31 => ⟨S12000, .f32⟩
  | 32 => ⟨S12000, .f32⟩
  | 33 => ⟨S12000, .i32⟩
  | 34 => ⟨S_, .i32⟩
  | 35 => ⟨S_, .i32⟩
  | 36 => ⟨S12000x4, .f32⟩
  | 37 => ⟨S12000, .f32⟩
  | 38 => ⟨S12000, .i32⟩
  | 39 => ⟨S_, .i32⟩
  | 40 => ⟨S_, .i32⟩
  | 41 => ⟨S12000, .i1⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S1x1, .f32⟩
  | 61 => ⟨S_, .f32⟩
  | 62 => ⟨S12000x1, .f32⟩
  | 63 => ⟨S12000, .f32⟩
  | 64 => ⟨S12000, .f32⟩
  | 65 => ⟨S12000, .f32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S1x1, .f32⟩
  | 81 => ⟨S_, .f32⟩
  | 82 => ⟨S12000x1, .f32⟩
  | 83 => ⟨S12000, .f32⟩
  | 84 => ⟨S12000, .f32⟩
  | 85 => ⟨S12000, .f32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x1, .f32⟩
  | 101 => ⟨S_, .f32⟩
  | 102 => ⟨S12000x1, .f32⟩
  | 103 => ⟨S12000, .f32⟩
  | 104 => ⟨S12000, .f32⟩
  | 105 => ⟨S12000, .f32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S1x1, .f32⟩
  | 121 => ⟨S_, .f32⟩
  | 122 => ⟨S12000x1, .f32⟩
  | 123 => ⟨S12000, .f32⟩
  | 124 => ⟨S12000, .f32⟩
  | 125 => ⟨S12000, .f32⟩
  | 126 => ⟨S12000, .f32⟩
  | 127 => ⟨S_, .f32⟩
  | _ => ⟨S1x512x50x50, .f32⟩

abbrev hbmTy0_3 (i : Nat) : BufTy := match i % 128 with
  | 0 => ⟨S_, .f32⟩
  | 1 => ⟨S12000, .f32⟩
  | 2 => ⟨S12000, .f32⟩
  | 3 => ⟨S12000, .f32⟩
  | 4 => ⟨S_, .f32⟩
  | 5 => ⟨S_, .f32⟩
  | 6 => ⟨S12000, .f32⟩
  | 7 => ⟨S12000, .f32⟩
  | 8 => ⟨S12000, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S1, .f32⟩
  | 16 => ⟨S_, .f32⟩
  | 17 => ⟨S12000, .f32⟩
  | 18 => ⟨S12000, .f32⟩
  | 19 => ⟨S12000, .f32⟩
  | 20 => ⟨S_, .f32⟩
  | 21 => ⟨S12000, .f32⟩
  | 22 => ⟨S12000, .f32⟩
  | 23 => ⟨S12000, .f32⟩
  | 24 => ⟨S_, .f32⟩
  | 25 => ⟨S12000, .f32⟩
  | 26 => ⟨S12000, .i1⟩
  | 27 => ⟨S_, .i32⟩
  | 28 => ⟨S12000, .i32⟩
  | 29 => ⟨S12000, .i1⟩
  | 30 => ⟨S12000, .i1⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S1, .i1⟩
  | 38 => ⟨S_, .i1⟩
  | 39 => ⟨S12000, .i1⟩
  | 40 => ⟨S12000, .i1⟩
  | 41 => ⟨S12000, .i1⟩
  | 42 => ⟨S12000, .i1⟩
  | 43 => ⟨S_, .i32⟩
  | 44 => ⟨S_, .i32⟩
  | 45 => ⟨S12000, .i32⟩
  | 46 => ⟨S_, .i32⟩
  | 47 => ⟨S_, .i32⟩
  | 48 => ⟨S12000, .i32⟩
  | 49 => ⟨S_, .i32⟩
  | 50 => ⟨S2000, .i32⟩
  | 51 => ⟨S_, .i32⟩
  | 52 => ⟨S12000, .i32⟩
  | 53 => ⟨S12000, .i1⟩
  | 54 => ⟨S_, .i32⟩
  | 55 => ⟨S12000, .i32⟩
  | 56 => ⟨S12000, .i32⟩
  | 57 => ⟨S12000, .i32⟩
  | 58 => ⟨S12000x1, .i32⟩
  | 59 => ⟨S_, .i32⟩
  | 60 => ⟨S12000, .i32⟩
  | 61 => ⟨S2000, .i32⟩
  | 62 => ⟨S_, .i32⟩
  | 63 => ⟨S_, .i32⟩
  | 64 => ⟨S2000, .i32⟩
  | 65 => ⟨S_, .i32⟩
  | 66 => ⟨S_, .i32⟩
  | 67 => ⟨S2000, .i32⟩
  | 68 => ⟨S2000, .i32⟩
  | 69 => ⟨S2000, .i32⟩
  | 70 => ⟨S_, .i32⟩
  | 71 => ⟨S2000, .i32⟩
  | 72 => ⟨S2000, .i1⟩
  | 73 => ⟨S2000, .i32⟩
  | 74 => ⟨S2000, .i32⟩
  | 75 => ⟨S_, .i32⟩
  | 76 => ⟨S2000, .i32⟩
  | 77 => ⟨S2000, .i1⟩
  | 78 => ⟨S2000, .i1⟩
  | 79 => ⟨S_, .i32⟩
  | 80 => ⟨S2000, .i32⟩
  | 81 => ⟨S2000, .i32⟩
  | 82 => ⟨S2000, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S2000, .i32⟩
  | 90 => ⟨S2000, .i32⟩
  | 91 => ⟨S_, .i32⟩
  | 92 => ⟨S2000, .i32⟩
  | 93 => ⟨S2000, .i1⟩
  | 94 => ⟨S_, .i32⟩
  | 95 => ⟨S2000, .i32⟩
  | 96 => ⟨S2000, .i1⟩
  | 97 => ⟨S_, .i32⟩
  | 98 => ⟨S_, .i1⟩
  | 99 => ⟨S2000, .i1⟩
  | 100 => ⟨S2000, .i1⟩
  | 101 => ⟨S2000, .i1⟩
  | 102 => ⟨S2000, .i32⟩
  | 103 => ⟨S2000, .i32⟩
  | 104 => ⟨S2000, .i32⟩
  | 105 => ⟨S12000, .i32⟩
  | 106 => ⟨S_, .i32⟩
  | 107 => ⟨S_, .i32⟩
  | 108 => ⟨S1, .i32⟩
  | 109 => ⟨S2000, .i32⟩
  | 110 => ⟨S2000, .i32⟩
  | 111 => ⟨S2000, .i1⟩
  | 112 => ⟨S_, .i32⟩
  | 113 => ⟨S1, .i32⟩
  | 114 => ⟨S2000, .i32⟩
  | 115 => ⟨S2000, .i32⟩
  | 116 => ⟨S_, .i32⟩
  | 117 => ⟨S2000, .i32⟩
  | 118 => ⟨S2000, .i1⟩
  | 119 => ⟨S_, .i32⟩
  | 120 => ⟨S2000, .i32⟩
  | 121 => ⟨S2000, .i32⟩
  | 122 => ⟨S2000, .i32⟩
  | 123 => ⟨S2000x1, .i32⟩
  | 124 => ⟨S2000x4, .f32⟩
  | 125 => ⟨S_, .i32⟩
  | 126 => ⟨S2000, .i32⟩
  | _ => ⟨S1x512x50x50, .f32⟩

abbrev hbmTy (i : Nat) : BufTy := match i / 128 with
  | 0 => hbmTy0_0 i
  | 1 => hbmTy0_1 i
  | 2 => hbmTy0_2 i
  | 3 => hbmTy0_3 i
  | _ => ⟨S1x512x50x50, .f32⟩

abbrev bufTy : (tb : Table) → Fin (tcTables nBuf tb) → BufTy
  | .hbm, ⟨i, _⟩ => hbmTy i
  | .local _ .vmem, ⟨0, _⟩ => ⟨S1x22500, .f32⟩
  | .local _ .vmem, ⟨1, _⟩ => ⟨S1x22500, .f32⟩
  | _, _ => ⟨S1x512x50x50, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_c_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_10 : Ref sig .tc := ⟨.hbm, 56, rfl⟩
abbrev main_c_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_12 : Ref sig .tc := ⟨.hbm, 64, rfl⟩
abbrev main_c_13 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_14 : Ref sig .tc := ⟨.hbm, 72, rfl⟩
abbrev main_c_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_16 : Ref sig .tc := ⟨.hbm, 80, rfl⟩
abbrev main_c_17 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_18 : Ref sig .tc := ⟨.hbm, 88, rfl⟩
abbrev main_c_19 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call1_cst : Ref sig .tc := ⟨.hbm, 98, rfl⟩
abbrev main_call1_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_20 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_22 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_23 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_24 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_25 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_26 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_27 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_28 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_29 : Ref sig .tc := ⟨.hbm, 203, rfl⟩
abbrev main_call2_v0 : Ref sig .tc := ⟨.hbm, 204, rfl⟩
abbrev main_call2_v1 : Ref sig .tc := ⟨.hbm, 205, rfl⟩
abbrev main_call2_v2 : Ref sig .tc := ⟨.hbm, 206, rfl⟩
abbrev main_call2_v3 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_30 : Ref sig .tc := ⟨.hbm, 211, rfl⟩
abbrev main_call3_v0 : Ref sig .tc := ⟨.hbm, 212, rfl⟩
abbrev main_call3_v1 : Ref sig .tc := ⟨.hbm, 213, rfl⟩
abbrev main_call3_v2 : Ref sig .tc := ⟨.hbm, 214, rfl⟩
abbrev main_call3_v3 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_31 : Ref sig .tc := ⟨.hbm, 219, rfl⟩
abbrev main_call4_v0 : Ref sig .tc := ⟨.hbm, 220, rfl⟩
abbrev main_call4_v1 : Ref sig .tc := ⟨.hbm, 221, rfl⟩
abbrev main_call4_v2 : Ref sig .tc := ⟨.hbm, 222, rfl⟩
abbrev main_call4_v3 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_32 : Ref sig .tc := ⟨.hbm, 227, rfl⟩
abbrev main_call5_v0 : Ref sig .tc := ⟨.hbm, 228, rfl⟩
abbrev main_call5_v1 : Ref sig .tc := ⟨.hbm, 229, rfl⟩
abbrev main_call5_v2 : Ref sig .tc := ⟨.hbm, 230, rfl⟩
abbrev main_call5_v3 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_33 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_34 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_35 : Ref sig .tc := ⟨.hbm, 247, rfl⟩
abbrev main_call6_v0 : Ref sig .tc := ⟨.hbm, 248, rfl⟩
abbrev main_call6_v1 : Ref sig .tc := ⟨.hbm, 249, rfl⟩
abbrev main_v183 : Ref sig .tc := ⟨.hbm, 250, rfl⟩
abbrev main_v184 : Ref sig .tc := ⟨.hbm, 251, rfl⟩
abbrev main_call7_v0 : Ref sig .tc := ⟨.hbm, 252, rfl⟩
abbrev main_call7_v1_0 : Ref sig .tc := ⟨.hbm, 253, rfl⟩
abbrev main_v185 : Ref sig .tc := ⟨.hbm, 254, rfl⟩
abbrev main_v186 : Ref sig .tc := ⟨.hbm, 255, rfl⟩
abbrev main_c_36 : Ref sig .tc := ⟨.hbm, 256, rfl⟩
abbrev main_v187 : Ref sig .tc := ⟨.hbm, 257, rfl⟩
abbrev main_v188 : Ref sig .tc := ⟨.hbm, 258, rfl⟩
abbrev main_c_37 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_c_38 : Ref sig .tc := ⟨.hbm, 265, rfl⟩
abbrev main_v194 : Ref sig .tc := ⟨.hbm, 266, rfl⟩
abbrev main_v195 : Ref sig .tc := ⟨.hbm, 267, rfl⟩
abbrev main_c_39 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_cst_40 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_c_41 : Ref sig .tc := ⟨.hbm, 290, rfl⟩
abbrev main_c_42 : Ref sig .tc := ⟨.hbm, 291, rfl⟩
abbrev main_v216_0 : Ref sig .tc := ⟨.hbm, 292, rfl⟩
abbrev main_v216_1 : Ref sig .tc := ⟨.hbm, 293, rfl⟩
abbrev main_v216_2 : Ref sig .tc := ⟨.hbm, 294, rfl⟩
abbrev main_v216_3 : Ref sig .tc := ⟨.hbm, 295, rfl⟩
abbrev main_v216_4 : Ref sig .tc := ⟨.hbm, 296, rfl⟩
abbrev main_v216_5 : Ref sig .tc := ⟨.hbm, 297, rfl⟩
abbrev main_while0c_c_59 : Ref sig .tc := ⟨.hbm, 298, rfl⟩
abbrev main_while0c_v246 : Ref sig .tc := ⟨.hbm, 299, rfl⟩
abbrev main_while0b_c_59 : Ref sig .tc := ⟨.hbm, 300, rfl⟩
abbrev main_while0b_v246 : Ref sig .tc := ⟨.hbm, 301, rfl⟩
abbrev main_while0b_v247 : Ref sig .tc := ⟨.hbm, 302, rfl⟩
abbrev main_while0b_c_60 : Ref sig .tc := ⟨.hbm, 303, rfl⟩
abbrev main_while0b_v248 : Ref sig .tc := ⟨.hbm, 304, rfl⟩
abbrev main_while0b_c_61 : Ref sig .tc := ⟨.hbm, 305, rfl⟩
abbrev main_while0b_v249 : Ref sig .tc := ⟨.hbm, 306, rfl⟩
abbrev main_while0b_v250 : Ref sig .tc := ⟨.hbm, 307, rfl⟩
abbrev main_while0b_c_62 : Ref sig .tc := ⟨.hbm, 308, rfl⟩
abbrev main_while0b_c_63 : Ref sig .tc := ⟨.hbm, 309, rfl⟩
abbrev main_while0b_v251 : Ref sig .tc := ⟨.hbm, 310, rfl⟩
abbrev main_while0b_c_64 : Ref sig .tc := ⟨.hbm, 311, rfl⟩
abbrev main_while0b_c_65 : Ref sig .tc := ⟨.hbm, 312, rfl⟩
abbrev main_while0b_v252 : Ref sig .tc := ⟨.hbm, 313, rfl⟩
abbrev main_while0b_c_66 : Ref sig .tc := ⟨.hbm, 314, rfl⟩
abbrev main_while0b_v253 : Ref sig .tc := ⟨.hbm, 315, rfl⟩
abbrev main_while0b_v254 : Ref sig .tc := ⟨.hbm, 316, rfl⟩
abbrev main_while0b_v255 : Ref sig .tc := ⟨.hbm, 317, rfl⟩
abbrev main_while0b_v256 : Ref sig .tc := ⟨.hbm, 318, rfl⟩
abbrev main_while0b_v257 : Ref sig .tc := ⟨.hbm, 319, rfl⟩
abbrev main_while0b_v258 : Ref sig .tc := ⟨.hbm, 320, rfl⟩
abbrev main_while0b_v259 : Ref sig .tc := ⟨.hbm, 321, rfl⟩
abbrev main_while0b_v260 : Ref sig .tc := ⟨.hbm, 322, rfl⟩
abbrev main_while0b_c_67 : Ref sig .tc := ⟨.hbm, 323, rfl⟩
abbrev main_while0b_v261 : Ref sig .tc := ⟨.hbm, 324, rfl⟩
abbrev main_while0b_c_68 : Ref sig .tc := ⟨.hbm, 325, rfl⟩
abbrev main_while0b_v262 : Ref sig .tc := ⟨.hbm, 326, rfl⟩
abbrev main_while0b_v263 : Ref sig .tc := ⟨.hbm, 327, rfl⟩
abbrev main_while0b_c_69 : Ref sig .tc := ⟨.hbm, 328, rfl⟩
abbrev main_while0b_c_70 : Ref sig .tc := ⟨.hbm, 329, rfl⟩
abbrev main_while0b_v264 : Ref sig .tc := ⟨.hbm, 330, rfl⟩
abbrev main_while0b_c_71 : Ref sig .tc := ⟨.hbm, 331, rfl⟩
abbrev main_while0b_c_72 : Ref sig .tc := ⟨.hbm, 332, rfl⟩
abbrev main_while0b_v265 : Ref sig .tc := ⟨.hbm, 333, rfl⟩
abbrev main_while0b_c_73 : Ref sig .tc := ⟨.hbm, 334, rfl⟩
abbrev main_while0b_v266 : Ref sig .tc := ⟨.hbm, 335, rfl⟩
abbrev main_while0b_v267 : Ref sig .tc := ⟨.hbm, 336, rfl⟩
abbrev main_while0b_v268 : Ref sig .tc := ⟨.hbm, 337, rfl⟩
abbrev main_while0b_v269 : Ref sig .tc := ⟨.hbm, 338, rfl⟩
abbrev main_while0b_v270 : Ref sig .tc := ⟨.hbm, 339, rfl⟩
abbrev main_while0b_v271 : Ref sig .tc := ⟨.hbm, 340, rfl⟩
abbrev main_while0b_v272 : Ref sig .tc := ⟨.hbm, 341, rfl⟩
abbrev main_while0b_v273 : Ref sig .tc := ⟨.hbm, 342, rfl⟩
abbrev main_while0b_c_74 : Ref sig .tc := ⟨.hbm, 343, rfl⟩
abbrev main_while0b_v274 : Ref sig .tc := ⟨.hbm, 344, rfl⟩
abbrev main_while0b_c_75 : Ref sig .tc := ⟨.hbm, 345, rfl⟩
abbrev main_while0b_v275 : Ref sig .tc := ⟨.hbm, 346, rfl⟩
abbrev main_while0b_v276 : Ref sig .tc := ⟨.hbm, 347, rfl⟩
abbrev main_while0b_c_76 : Ref sig .tc := ⟨.hbm, 348, rfl⟩
abbrev main_while0b_c_77 : Ref sig .tc := ⟨.hbm, 349, rfl⟩
abbrev main_while0b_v277 : Ref sig .tc := ⟨.hbm, 350, rfl⟩
abbrev main_while0b_c_78 : Ref sig .tc := ⟨.hbm, 351, rfl⟩
abbrev main_while0b_c_79 : Ref sig .tc := ⟨.hbm, 352, rfl⟩
abbrev main_while0b_v278 : Ref sig .tc := ⟨.hbm, 353, rfl⟩
abbrev main_while0b_c_80 : Ref sig .tc := ⟨.hbm, 354, rfl⟩
abbrev main_while0b_v279 : Ref sig .tc := ⟨.hbm, 355, rfl⟩
abbrev main_while0b_v280 : Ref sig .tc := ⟨.hbm, 356, rfl⟩
abbrev main_while0b_v281 : Ref sig .tc := ⟨.hbm, 357, rfl⟩
abbrev main_while0b_v282 : Ref sig .tc := ⟨.hbm, 358, rfl⟩
abbrev main_while0b_v283 : Ref sig .tc := ⟨.hbm, 359, rfl⟩
abbrev main_while0b_v284 : Ref sig .tc := ⟨.hbm, 360, rfl⟩
abbrev main_while0b_v285 : Ref sig .tc := ⟨.hbm, 361, rfl⟩
abbrev main_while0b_v286 : Ref sig .tc := ⟨.hbm, 362, rfl⟩
abbrev main_while0b_c_81 : Ref sig .tc := ⟨.hbm, 363, rfl⟩
abbrev main_while0b_v287 : Ref sig .tc := ⟨.hbm, 364, rfl⟩
abbrev main_while0b_c_82 : Ref sig .tc := ⟨.hbm, 365, rfl⟩
abbrev main_while0b_v288 : Ref sig .tc := ⟨.hbm, 366, rfl⟩
abbrev main_while0b_v289 : Ref sig .tc := ⟨.hbm, 367, rfl⟩
abbrev main_while0b_c_83 : Ref sig .tc := ⟨.hbm, 368, rfl⟩
abbrev main_while0b_c_84 : Ref sig .tc := ⟨.hbm, 369, rfl⟩
abbrev main_while0b_v290 : Ref sig .tc := ⟨.hbm, 370, rfl⟩
abbrev main_while0b_c_85 : Ref sig .tc := ⟨.hbm, 371, rfl⟩
abbrev main_while0b_c_86 : Ref sig .tc := ⟨.hbm, 372, rfl⟩
abbrev main_while0b_v291 : Ref sig .tc := ⟨.hbm, 373, rfl⟩
abbrev main_while0b_c_87 : Ref sig .tc := ⟨.hbm, 374, rfl⟩
abbrev main_while0b_v292 : Ref sig .tc := ⟨.hbm, 375, rfl⟩
abbrev main_while0b_v293 : Ref sig .tc := ⟨.hbm, 376, rfl⟩
abbrev main_while0b_v294 : Ref sig .tc := ⟨.hbm, 377, rfl⟩
abbrev main_while0b_v295 : Ref sig .tc := ⟨.hbm, 378, rfl⟩
abbrev main_while0b_v296 : Ref sig .tc := ⟨.hbm, 379, rfl⟩
abbrev main_while0b_v297 : Ref sig .tc := ⟨.hbm, 380, rfl⟩
abbrev main_while0b_v298 : Ref sig .tc := ⟨.hbm, 381, rfl⟩
abbrev main_while0b_v299 : Ref sig .tc := ⟨.hbm, 382, rfl⟩
abbrev main_while0b_cst_88 : Ref sig .tc := ⟨.hbm, 383, rfl⟩
abbrev main_while0b_call8_v0 : Ref sig .tc := ⟨.hbm, 384, rfl⟩
abbrev main_while0b_call8_v1 : Ref sig .tc := ⟨.hbm, 385, rfl⟩
abbrev main_while0b_v300 : Ref sig .tc := ⟨.hbm, 386, rfl⟩
abbrev main_while0b_v301 : Ref sig .tc := ⟨.hbm, 387, rfl⟩
abbrev main_while0b_cst_89 : Ref sig .tc := ⟨.hbm, 388, rfl⟩
abbrev main_while0b_call9_v0 : Ref sig .tc := ⟨.hbm, 389, rfl⟩
abbrev main_while0b_call9_v1 : Ref sig .tc := ⟨.hbm, 390, rfl⟩
abbrev main_while0b_v302 : Ref sig .tc := ⟨.hbm, 391, rfl⟩
abbrev main_while0b_v303 : Ref sig .tc := ⟨.hbm, 392, rfl⟩
abbrev main_while0b_c_90 : Ref sig .tc := ⟨.hbm, 393, rfl⟩
abbrev main_while0b_v304 : Ref sig .tc := ⟨.hbm, 394, rfl⟩
abbrev main_while0b_v305 : Ref sig .tc := ⟨.hbm, 395, rfl⟩
abbrev main_while0b_c_91 : Ref sig .tc := ⟨.hbm, 396, rfl⟩
abbrev main_while0b_v306 : Ref sig .tc := ⟨.hbm, 397, rfl⟩
abbrev main_while0b_v307 : Ref sig .tc := ⟨.hbm, 398, rfl⟩
abbrev main_while0b_v308 : Ref sig .tc := ⟨.hbm, 399, rfl⟩
abbrev main_while0b_v309 : Ref sig .tc := ⟨.hbm, 400, rfl⟩
abbrev main_while0b_v310 : Ref sig .tc := ⟨.hbm, 401, rfl⟩
abbrev main_while0b_v311 : Ref sig .tc := ⟨.hbm, 402, rfl⟩
abbrev main_while0b_v312 : Ref sig .tc := ⟨.hbm, 403, rfl⟩
abbrev main_while0b_cst_92 : Ref sig .tc := ⟨.hbm, 404, rfl⟩
abbrev main_while0b_v313 : Ref sig .tc := ⟨.hbm, 405, rfl⟩
abbrev main_while0b_v314 : Ref sig .tc := ⟨.hbm, 406, rfl⟩
abbrev main_while0b_v315 : Ref sig .tc := ⟨.hbm, 407, rfl⟩
abbrev main_while0b_cst_93 : Ref sig .tc := ⟨.hbm, 408, rfl⟩
abbrev main_while0b_v316 : Ref sig .tc := ⟨.hbm, 409, rfl⟩
abbrev main_while0b_v317 : Ref sig .tc := ⟨.hbm, 410, rfl⟩
abbrev main_while0b_v318 : Ref sig .tc := ⟨.hbm, 411, rfl⟩
abbrev main_while0b_v319 : Ref sig .tc := ⟨.hbm, 412, rfl⟩
abbrev main_while0b_v320 : Ref sig .tc := ⟨.hbm, 413, rfl⟩
abbrev main_while0b_v321 : Ref sig .tc := ⟨.hbm, 414, rfl⟩
abbrev main_while0b_c_94 : Ref sig .tc := ⟨.hbm, 415, rfl⟩
abbrev main_while0b_v322 : Ref sig .tc := ⟨.hbm, 416, rfl⟩
abbrev main_while0b_v323 : Ref sig .tc := ⟨.hbm, 417, rfl⟩
abbrev main_while0b_c_95 : Ref sig .tc := ⟨.hbm, 418, rfl⟩
abbrev main_while0b_v324 : Ref sig .tc := ⟨.hbm, 419, rfl⟩
abbrev main_while0b_v325 : Ref sig .tc := ⟨.hbm, 420, rfl⟩
abbrev main_while0b_v326 : Ref sig .tc := ⟨.hbm, 421, rfl⟩
abbrev main_while0b_v327 : Ref sig .tc := ⟨.hbm, 422, rfl⟩
abbrev main_while0b_v328 : Ref sig .tc := ⟨.hbm, 423, rfl⟩
abbrev main_while0b_v329 : Ref sig .tc := ⟨.hbm, 424, rfl⟩
abbrev main_while0b_v330 : Ref sig .tc := ⟨.hbm, 425, rfl⟩
abbrev main_while0b_v331 : Ref sig .tc := ⟨.hbm, 426, rfl⟩
abbrev main_while0b_c_96 : Ref sig .tc := ⟨.hbm, 427, rfl⟩
abbrev main_while0b_v332 : Ref sig .tc := ⟨.hbm, 428, rfl⟩
abbrev main_call10_v0 : Ref sig .tc := ⟨.hbm, 429, rfl⟩
abbrev main_call10_call0_c : Ref sig .tc := ⟨.hbm, 430, rfl⟩
abbrev main_call10_call0_v0 : Ref sig .tc := ⟨.hbm, 431, rfl⟩
abbrev main_v217 : Ref sig .tc := ⟨.hbm, 432, rfl⟩
abbrev main_c_43 : Ref sig .tc := ⟨.hbm, 433, rfl⟩
abbrev main_v218 : Ref sig .tc := ⟨.hbm, 434, rfl⟩
abbrev main_c_44 : Ref sig .tc := ⟨.hbm, 435, rfl⟩
abbrev main_v219 : Ref sig .tc := ⟨.hbm, 436, rfl⟩
abbrev main_v220 : Ref sig .tc := ⟨.hbm, 437, rfl⟩
abbrev main_c_45 : Ref sig .tc := ⟨.hbm, 438, rfl⟩
abbrev main_v221 : Ref sig .tc := ⟨.hbm, 439, rfl⟩
abbrev main_v222 : Ref sig .tc := ⟨.hbm, 440, rfl⟩
abbrev main_v223 : Ref sig .tc := ⟨.hbm, 441, rfl⟩
abbrev main_v224 : Ref sig .tc := ⟨.hbm, 442, rfl⟩
abbrev main_c_46 : Ref sig .tc := ⟨.hbm, 443, rfl⟩
abbrev main_v225 : Ref sig .tc := ⟨.hbm, 444, rfl⟩
abbrev main_v226 : Ref sig .tc := ⟨.hbm, 445, rfl⟩
abbrev main_call11_call0_c : Ref sig .tc := ⟨.hbm, 446, rfl⟩
abbrev main_call11_call0_v0 : Ref sig .tc := ⟨.hbm, 447, rfl⟩
abbrev main_v227 : Ref sig .tc := ⟨.hbm, 448, rfl⟩
abbrev main_c_47 : Ref sig .tc := ⟨.hbm, 449, rfl⟩
abbrev main_call12_v0 : Ref sig .tc := ⟨.hbm, 450, rfl⟩
abbrev main_call12_v1 : Ref sig .tc := ⟨.hbm, 451, rfl⟩
abbrev main_call12_v2 : Ref sig .tc := ⟨.hbm, 452, rfl⟩
abbrev main_call12_v3 : Ref sig .tc := ⟨.hbm, 453, rfl⟩
abbrev main_call12_v4 : Ref sig .tc := ⟨.hbm, 454, rfl⟩
abbrev main_call12_v5 : Ref sig .tc := ⟨.hbm, 455, rfl⟩
abbrev main_call12_v6 : Ref sig .tc := ⟨.hbm, 456, rfl⟩
abbrev main_call12_v7 : Ref sig .tc := ⟨.hbm, 457, rfl⟩
abbrev main_call12_v8 : Ref sig .tc := ⟨.hbm, 458, rfl⟩
abbrev main_call12_c : Ref sig .tc := ⟨.hbm, 459, rfl⟩
abbrev main_call12_v9 : Ref sig .tc := ⟨.hbm, 460, rfl⟩
abbrev main_call12_v10 : Ref sig .tc := ⟨.hbm, 461, rfl⟩
abbrev main_call12_v11 : Ref sig .tc := ⟨.hbm, 462, rfl⟩
abbrev main_call12_c_0 : Ref sig .tc := ⟨.hbm, 463, rfl⟩
abbrev main_call12_v12 : Ref sig .tc := ⟨.hbm, 464, rfl⟩
abbrev main_call12_v13 : Ref sig .tc := ⟨.hbm, 465, rfl⟩
abbrev main_v228 : Ref sig .tc := ⟨.hbm, 466, rfl⟩
abbrev main_c_48 : Ref sig .tc := ⟨.hbm, 467, rfl⟩
abbrev main_call13_v0 : Ref sig .tc := ⟨.hbm, 468, rfl⟩
abbrev main_call13_c : Ref sig .tc := ⟨.hbm, 469, rfl⟩
abbrev main_call13_v1 : Ref sig .tc := ⟨.hbm, 470, rfl⟩
abbrev main_call13_c_0 : Ref sig .tc := ⟨.hbm, 471, rfl⟩
abbrev main_call13_v2 : Ref sig .tc := ⟨.hbm, 472, rfl⟩
abbrev main_call13_v3 : Ref sig .tc := ⟨.hbm, 473, rfl⟩
abbrev main_call13_v4 : Ref sig .tc := ⟨.hbm, 474, rfl⟩
abbrev main_call13_c_1 : Ref sig .tc := ⟨.hbm, 475, rfl⟩
abbrev main_call13_v5 : Ref sig .tc := ⟨.hbm, 476, rfl⟩
abbrev main_call13_v6 : Ref sig .tc := ⟨.hbm, 477, rfl⟩
abbrev main_call13_c_2 : Ref sig .tc := ⟨.hbm, 478, rfl⟩
abbrev main_call13_v7 : Ref sig .tc := ⟨.hbm, 479, rfl⟩
abbrev main_call13_v8 : Ref sig .tc := ⟨.hbm, 480, rfl⟩
abbrev main_call13_c_3 : Ref sig .tc := ⟨.hbm, 481, rfl⟩
abbrev main_call13_v9 : Ref sig .tc := ⟨.hbm, 482, rfl⟩
abbrev main_call13_v10 : Ref sig .tc := ⟨.hbm, 483, rfl⟩
abbrev main_call13_v11 : Ref sig .tc := ⟨.hbm, 484, rfl⟩
abbrev main_call13_v12 : Ref sig .tc := ⟨.hbm, 485, rfl⟩
abbrev main_call13_v13 : Ref sig .tc := ⟨.hbm, 486, rfl⟩
abbrev main_call13_v14 : Ref sig .tc := ⟨.hbm, 487, rfl⟩
abbrev main_v229 : Ref sig .tc := ⟨.hbm, 488, rfl⟩
abbrev main_v230 : Ref sig .tc := ⟨.hbm, 489, rfl⟩
abbrev main_c_49 : Ref sig .tc := ⟨.hbm, 490, rfl⟩
abbrev main_v231 : Ref sig .tc := ⟨.hbm, 491, rfl⟩
abbrev main_v232 : Ref sig .tc := ⟨.hbm, 492, rfl⟩
abbrev main_v233 : Ref sig .tc := ⟨.hbm, 493, rfl⟩
abbrev main_v234 : Ref sig .tc := ⟨.hbm, 494, rfl⟩
abbrev main_v235 : Ref sig .tc := ⟨.hbm, 495, rfl⟩
abbrev main_c_50 : Ref sig .tc := ⟨.hbm, 496, rfl⟩
abbrev main_v236 : Ref sig .tc := ⟨.hbm, 497, rfl⟩
abbrev main_call14_v0 : Ref sig .tc := ⟨.hbm, 498, rfl⟩
abbrev main_v237 : Ref sig .tc := ⟨.hbm, 499, rfl⟩
abbrev main_c_51 : Ref sig .tc := ⟨.hbm, 500, rfl⟩
abbrev main_v238 : Ref sig .tc := ⟨.hbm, 501, rfl⟩
abbrev main_v239 : Ref sig .tc := ⟨.hbm, 502, rfl⟩
abbrev main_c_52 : Ref sig .tc := ⟨.hbm, 503, rfl⟩
abbrev main_v240 : Ref sig .tc := ⟨.hbm, 504, rfl⟩
abbrev main_v241 : Ref sig .tc := ⟨.hbm, 505, rfl⟩
abbrev main_v242 : Ref sig .tc := ⟨.hbm, 506, rfl⟩
abbrev main_v243 : Ref sig .tc := ⟨.hbm, 507, rfl⟩
abbrev main_v244 : Ref sig .tc := ⟨.hbm, 508, rfl⟩
abbrev main_c_53 : Ref sig .tc := ⟨.hbm, 509, rfl⟩
abbrev main_v245 : Ref sig .tc := ⟨.hbm, 510, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev main_while0_count : Scf.Loop 32 := ⟨0#32, 12000#32, 1#32⟩

abbrev grid0 : Pipeline.Grid := .none

abbrev stage0_0 : Fin 1 → Memref sig .tc .vmem S1x22500 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x22500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x512x50x50 : Shape := ⟨4, ![1, 512, 50, 50]⟩
abbrev S2 : Shape := ⟨1, ![2]⟩
abbrev S512x512x3x3 : Shape := ⟨4, ![512, 512, 3, 3]⟩
abbrev S512 : Shape := ⟨1, ![512]⟩
abbrev S36x512x1x1 : Shape := ⟨4, ![36, 512, 1, 1]⟩
abbrev S36 : Shape := ⟨1, ![36]⟩
abbrev S18x512x1x1 : Shape := ⟨4, ![18, 512, 1, 1]⟩
abbrev S18 : Shape := ⟨1, ![18]⟩
abbrev S22500x4 : Shape := ⟨2, ![22500, 4]⟩
abbrev S_ : Shape := ⟨0, ![]⟩
abbrev S1x512x52x52 : Shape := ⟨4, ![1, 512, 52, 52]⟩
abbrev S512x512x1x1 : Shape := ⟨4, ![512, 512, 1, 1]⟩
abbrev S512x512 : Shape := ⟨2, ![512, 512]⟩
abbrev S512x1x50x50 : Shape := ⟨4, ![512, 1, 50, 50]⟩
abbrev S1x512x1x1 : Shape := ⟨4, ![1, 512, 1, 1]⟩
abbrev S36x512 : Shape := ⟨2, ![36, 512]⟩
abbrev S36x1x50x50 : Shape := ⟨4, ![36, 1, 50, 50]⟩
abbrev S1x36x50x50 : Shape := ⟨4, ![1, 36, 50, 50]⟩
abbrev S1x36x1x1 : Shape := ⟨4, ![1, 36, 1, 1]⟩
abbrev S1x50x50x36 : Shape := ⟨4, ![1, 50, 50, 36]⟩
abbrev S1x22500x4 : Shape := ⟨3, ![1, 22500, 4]⟩
abbrev S18x512 : Shape := ⟨2, ![18, 512]⟩
abbrev S18x1x50x50 : Shape := ⟨4, ![18, 1, 50, 50]⟩
abbrev S1x18x50x50 : Shape := ⟨4, ![1, 18, 50, 50]⟩
abbrev S1x18x1x1 : Shape := ⟨4, ![1, 18, 1, 1]⟩
abbrev S1x50x50x18 : Shape := ⟨4, ![1, 50, 50, 18]⟩
abbrev S1x50x50x9x2 : Shape := ⟨5, ![1, 50, 50, 9, 2]⟩
abbrev S1x50x50x9 : Shape := ⟨4, ![1, 50, 50, 9]⟩
abbrev S1x50x50x9x1 : Shape := ⟨5, ![1, 50, 50, 9, 1]⟩
abbrev S1x22500 : Shape := ⟨2, ![1, 22500]⟩
abbrev S1x22500x2 : Shape := ⟨3, ![1, 22500, 2]⟩
abbrev S1 : Shape := ⟨1, ![1]⟩
abbrev S22500 : Shape := ⟨1, ![22500]⟩
abbrev S22500x1 : Shape := ⟨2, ![22500, 1]⟩
abbrev S12000 : Shape := ⟨1, ![12000]⟩
abbrev S12000x1 : Shape := ⟨2, ![12000, 1]⟩
abbrev S12000x4 : Shape := ⟨2, ![12000, 4]⟩
abbrev S1x1 : Shape := ⟨2, ![1, 1]⟩
abbrev S2000 : Shape := ⟨1, ![2000]⟩
abbrev S2000x1 : Shape := ⟨2, ![2000, 1]⟩
abbrev S2000x4 : Shape := ⟨2, ![2000, 4]⟩

abbrev nBuf : Space → Nat
  | .hbm => 497
  | .vmem => 0
  | .smem => 0
  | _ => 0

abbrev hbmTy0_0 (i : Nat) : BufTy := match i % 128 with
  | 0 => ⟨S1x512x50x50, .f32⟩
  | 1 => ⟨S2, .i32⟩
  | 2 => ⟨S512x512x3x3, .f32⟩
  | 3 => ⟨S512, .f32⟩
  | 4 => ⟨S36x512x1x1, .f32⟩
  | 5 => ⟨S36, .f32⟩
  | 6 => ⟨S18x512x1x1, .f32⟩
  | 7 => ⟨S18, .f32⟩
  | 8 => ⟨S22500x4, .f32⟩
  | 9 => ⟨S_, .i32⟩
  | 10 => ⟨S_, .f32⟩
  | 11 => ⟨S1x512x52x52, .f32⟩
  | 12 => ⟨S1x512x50x50, .f32⟩
  | 13 => ⟨S512x512x1x1, .f32⟩
  | 14 => ⟨S512x512, .f32⟩
  | 15 => ⟨S512x1x50x50, .f32⟩
  | 16 => ⟨S1x512x50x50, .f32⟩
  | 17 => ⟨S_, .f32⟩
  | 18 => ⟨S1x512x50x50, .f32⟩
  | 19 => ⟨S1x512x50x50, .f32⟩
  | 20 => ⟨S1x512x50x50, .f32⟩
  | 21 => ⟨S512x512x1x1, .f32⟩
  | 22 => ⟨S512x512, .f32⟩
  | 23 => ⟨S512x1x50x50, .f32⟩
  | 24 => ⟨S1x512x50x50, .f32⟩
  | 25 => ⟨S1x512x50x50, .f32⟩
  | 26 => ⟨S1x512x50x50, .f32⟩
  | 27 => ⟨S512x512x1x1, .f32⟩
  | 28 => ⟨S512x512, .f32⟩
  | 29 => ⟨S512x1x50x50, .f32⟩
  | 30 => ⟨S1x512x50x50, .f32⟩
  | 31 => ⟨S1x512x50x50, .f32⟩
  | 32 => ⟨S1x512x50x50, .f32⟩
  | 33 => ⟨S512x512x1x1, .f32⟩
  | 34 => ⟨S512x512, .f32⟩
  | 35 => ⟨S512x1x50x50, .f32⟩
  | 36 => ⟨S1x512x50x50, .f32⟩
  | 37 => ⟨S1x512x50x50, .f32⟩
  | 38 => ⟨S1x512x50x50, .f32⟩
  | 39 => ⟨S512x512x1x1, .f32⟩
  | 40 => ⟨S512x512, .f32⟩
  | 41 => ⟨S512x1x50x50, .f32⟩
  | 42 => ⟨S1x512x50x50, .f32⟩
  | 43 => ⟨S1x512x50x50, .f32⟩
  | 44 => ⟨S1x512x50x50, .f32⟩
  | 45 => ⟨S512x512x1x1, .f32⟩
  | 46 => ⟨S512x512, .f32⟩
  | 47 => ⟨S512x1x50x50, .f32⟩
  | 48 => ⟨S1x512x50x50, .f32⟩
  | 49 => ⟨S1x512x50x50, .f32⟩
  | 50 => ⟨S1x512x50x50, .f32⟩
  | 51 => ⟨S512x512x1x1, .f32⟩
  | 52 => ⟨S512x512, .f32⟩
  | 53 => ⟨S512x1x50x50, .f32⟩
  | 54 => ⟨S1x512x50x50, .f32⟩
  | 55 => ⟨S1x512x50x50, .f32⟩
  | 56 => ⟨S1x512x50x50, .f32⟩
  | 57 => ⟨S512x512x1x1, .f32⟩
  | 58 => ⟨S512x512, .f32⟩
  | 59 => ⟨S512x1x50x50, .f32⟩
  | 60 => ⟨S1x512x50x50, .f32⟩
  | 61 => ⟨S1x512x50x50, .f32⟩
  | 62 => ⟨S1x512x50x50, .f32⟩
  | 63 => ⟨S512x512x1x1, .f32⟩
  | 64 => ⟨S512x512, .f32⟩
  | 65 => ⟨S512x1x50x50, .f32⟩
  | 66 => ⟨S1x512x50x50, .f32⟩
  | 67 => ⟨S1x512x50x50, .f32⟩
  | 68 => ⟨S1x512x1x1, .f32⟩
  | 69 => ⟨S1x512x50x50, .f32⟩
  | 70 => ⟨S1x512x50x50, .f32⟩
  | 71 => ⟨S_, .f32⟩
  | 72 => ⟨S1x512x50x50, .f32⟩
  | 73 => ⟨S1x512x50x50, .f32⟩
  | 74 => ⟨S_, .i32⟩
  | 75 => ⟨S_, .f32⟩
  | 76 => ⟨S1x512x50x50, .f32⟩
  | 77 => ⟨S36x512, .f32⟩
  | 78 => ⟨S36x1x50x50, .f32⟩
  | 79 => ⟨S1x36x50x50, .f32⟩
  | 80 => ⟨S_, .f32⟩
  | 81 => ⟨S1x36x50x50, .f32⟩
  | 82 => ⟨S1x36x50x50, .f32⟩
  | 83 => ⟨S1x36x1x1, .f32⟩
  | 84 => ⟨S1x36x50x50, .f32⟩
  | 85 => ⟨S1x36x50x50, .f32⟩
  | 86 => ⟨S1x50x50x36, .f32⟩
  | 87 => ⟨S1x22500x4, .f32⟩
  | 88 => ⟨S_, .i32⟩
  | 89 => ⟨S_, .f32⟩
  | 90 => ⟨S1x512x50x50, .f32⟩
  | 91 => ⟨S18x512, .f32⟩
  | 92 => ⟨S18x1x50x50, .f32⟩
  | 93 => ⟨S1x18x50x50, .f32⟩
  | 94 => ⟨S_, .f32⟩
  | 95 => ⟨S1x18x50x50, .f32⟩
  | 96 => ⟨S1x18x50x50, .f32⟩
  | 97 => ⟨S1x18x1x1, .f32⟩
  | 98 => ⟨S1x18x50x50, .f32⟩
  | 99 => ⟨S1x18x50x50, .f32⟩
  | 100 => ⟨S1x50x50x18, .f32⟩
  | 101 => ⟨S1x50x50x9x2, .f32⟩
  | 102 => ⟨S_, .f32⟩
  | 103 => ⟨S1x50x50x9, .f32⟩
  | 104 => ⟨S_, .f32⟩
  | 105 => ⟨S1x50x50x9, .f32⟩
  | 106 => ⟨S1x50x50x9, .f32⟩
  | 107 => ⟨S1x50x50x9x1, .f32⟩
  | 108 => ⟨S1x50x50x9x2, .f32⟩
  | 109 => ⟨S1x50x50x9x2, .f32⟩
  | 110 => ⟨S1x50x50x9x2, .f32⟩
  | 111 => ⟨S_, .f32⟩
  | 112 => ⟨S1x50x50x9, .f32⟩
  | 113 => ⟨S1x50x50x9x1, .f32⟩
  | 114 => ⟨S1x50x50x9x2, .f32⟩
  | 115 => ⟨S1x50x50x9x2, .f32⟩
  | 116 => ⟨S1x50x50x9x1, .f32⟩
  | 117 => ⟨S1x50x50x9, .f32⟩
  | 118 => ⟨S1x22500, .f32⟩
  | 119 => ⟨S1x22500x2, .f32⟩
  | 120 => ⟨S1, .i32⟩
  | 121 => ⟨S_, .i32⟩
  | 122 => ⟨S_, .f32⟩
  | 123 => ⟨S1, .i32⟩
  | 124 => ⟨S_, .i32⟩
  | 125 => ⟨S_, .f32⟩
  | 126 => ⟨S22500x4, .f32⟩
  | 127 => ⟨S22500, .f32⟩
  | _ => ⟨S1x512x50x50, .f32⟩

abbrev hbmTy0_1 (i : Nat) : BufTy := match i % 128 with
  | 0 => ⟨S22500x1, .f32⟩
  | 1 => ⟨S22500, .f32⟩
  | 2 => ⟨S22500x1, .f32⟩
  | 3 => ⟨S22500, .f32⟩
  | 4 => ⟨S22500, .f32⟩
  | 5 => ⟨S22500x1, .f32⟩
  | 6 => ⟨S22500, .f32⟩
  | 7 => ⟨S22500x1, .f32⟩
  | 8 => ⟨S22500, .f32⟩
  | 9 => ⟨S22500, .f32⟩
  | 10 => ⟨S22500x1, .f32⟩
  | 11 => ⟨S22500, .f32⟩
  | 12 => ⟨S_, .f32⟩
  | 13 => ⟨S22500, .f32⟩
  | 14 => ⟨S22500, .f32⟩
  | 15 => ⟨S22500, .f32⟩
  | 16 => ⟨S22500x1, .f32⟩
  | 17 => ⟨S22500, .f32⟩
  | 18 => ⟨S_, .f32⟩
  | 19 => ⟨S22500, .f32⟩
  | 20 => ⟨S22500, .f32⟩
  | 21 => ⟨S22500, .f32⟩
  | 22 => ⟨S22500x1, .f32⟩
  | 23 => ⟨S22500, .f32⟩
  | 24 => ⟨S22500x1, .f32⟩
  | 25 => ⟨S22500, .f32⟩
  | 26 => ⟨S22500x1, .f32⟩
  | 27 => ⟨S22500, .f32⟩
  | 28 => ⟨S22500x1, .f32⟩
  | 29 => ⟨S22500, .f32⟩
  | 30 => ⟨S22500, .f32⟩
  | 31 => ⟨S22500, .f32⟩
  | 32 => ⟨S22500, .f32⟩
  | 33 => ⟨S22500, .f32⟩
  | 34 => ⟨S22500, .f32⟩
  | 35 => ⟨S22500, .f32⟩
  | 36 => ⟨S22500, .f32⟩
  | 37 => ⟨S22500, .f32⟩
  | 38 => ⟨S_, .f32⟩
  | 39 => ⟨S22500, .f32⟩
  | 40 => ⟨S22500, .f32⟩
  | 41 => ⟨S22500, .f32⟩
  | 42 => ⟨S_, .f32⟩
  | 43 => ⟨S22500, .f32⟩
  | 44 => ⟨S22500, .f32⟩
  | 45 => ⟨S22500, .f32⟩
  | 46 => ⟨S_, .f32⟩
  | 47 => ⟨S22500, .f32⟩
  | 48 => ⟨S22500, .f32⟩
  | 49 => ⟨S22500, .f32⟩
  | 50 => ⟨S_, .f32⟩
  | 51 => ⟨S22500, .f32⟩
  | 52 => ⟨S22500, .f32⟩
  | 53 => ⟨S22500, .f32⟩
  | 54 => ⟨S22500x1, .f32⟩
  | 55 => ⟨S22500x1, .f32⟩
  | 56 => ⟨S22500x1, .f32⟩
  | 57 => ⟨S22500x1, .f32⟩
  | 58 => ⟨S22500x4, .f32⟩
  | 59 => ⟨S22500x1, .f32⟩
  | 60 => ⟨S22500, .f32⟩
  | 61 => ⟨S_, .f32⟩
  | 62 => ⟨S_, .f32⟩
  | 63 => ⟨S22500, .f32⟩
  | 64 => ⟨S22500, .f32⟩
  | 65 => ⟨S22500, .f32⟩
  | 66 => ⟨S22500, .f32⟩
  | 67 => ⟨S22500x1, .f32⟩
  | 68 => ⟨S22500, .f32⟩
  | 69 => ⟨S_, .f32⟩
  | 70 => ⟨S_, .f32⟩
  | 71 => ⟨S22500, .f32⟩
  | 72 => ⟨S22500, .f32⟩
  | 73 => ⟨S22500, .f32⟩
  | 74 => ⟨S22500, .f32⟩
  | 75 => ⟨S22500x1, .f32⟩
  | 76 => ⟨S22500, .f32⟩
  | 77 => ⟨S_, .f32⟩
  | 78 => ⟨S_, .f32⟩
  | 79 => ⟨S22500, .f32⟩
  | 80 => ⟨S22500, .f32⟩
  | 81 => ⟨S22500, .f32⟩
  | 82 => ⟨S22500, .f32⟩
  | 83 => ⟨S22500x1, .f32⟩
  | 84 => ⟨S22500, .f32⟩
  | 85 => ⟨S_, .f32⟩
  | 86 => ⟨S_, .f32⟩
  | 87 => ⟨S22500, .f32⟩
  | 88 => ⟨S22500, .f32⟩
  | 89 => ⟨S22500, .f32⟩
  | 90 => ⟨S22500, .f32⟩
  | 91 => ⟨S22500x1, .f32⟩
  | 92 => ⟨S22500x1, .f32⟩
  | 93 => ⟨S22500x1, .f32⟩
  | 94 => ⟨S22500x1, .f32⟩
  | 95 => ⟨S22500x4, .f32⟩
  | 96 => ⟨S22500, .f32⟩
  | 97 => ⟨S22500, .f32⟩
  | 98 => ⟨S_, .f32⟩
  | 99 => ⟨S22500, .f32⟩
  | 100 => ⟨S22500, .i1⟩
  | 101 => ⟨S_, .f32⟩
  | 102 => ⟨S22500, .f32⟩
  | 103 => ⟨S22500, .i1⟩
  | 104 => ⟨S22500, .i1⟩
  | 105 => ⟨S_, .f32⟩
  | 106 => ⟨S_, .f32⟩
  | 107 => ⟨S22500, .f32⟩
  | 108 => ⟨S22500, .f32⟩
  | 109 => ⟨S22500, .f32⟩
  | 110 => ⟨S22500, .i32⟩
  | 111 => ⟨S22500, .f32⟩
  | 112 => ⟨S22500, .i32⟩
  | 113 => ⟨S12000, .i32⟩
  | 114 => ⟨S_, .i32⟩
  | 115 => ⟨S12000, .i32⟩
  | 116 => ⟨S12000, .i1⟩
  | 117 => ⟨S_, .i32⟩
  | 118 => ⟨S12000, .i32⟩
  | 119 => ⟨S12000, .i32⟩
  | 120 => ⟨S12000, .i32⟩
  | 121 => ⟨S12000x1, .i32⟩
  | 122 => ⟨S12000x4, .f32⟩
  | 123 => ⟨S_, .i32⟩
  | 124 => ⟨S12000, .i32⟩
  | 125 => ⟨S12000, .i1⟩
  | 126 => ⟨S_, .i32⟩
  | 127 => ⟨S12000, .i32⟩
  | _ => ⟨S1x512x50x50, .f32⟩

abbrev hbmTy0_2 (i : Nat) : BufTy := match i % 128 with
  | 0 => ⟨S12000, .i32⟩
  | 1 => ⟨S12000, .i32⟩
  | 2 => ⟨S12000x1, .i32⟩
  | 3 => ⟨S12000, .f32⟩
  | 4 => ⟨S12000, .f32⟩
  | 5 => ⟨S_, .f32⟩
  | 6 => ⟨S12000, .f32⟩
  | 7 => ⟨S12000, .i1⟩
  | 8 => ⟨S12000x1, .f32⟩
  | 9 => ⟨S12000, .f32⟩
  | 10 => ⟨S12000x1, .f32⟩
  | 11 => ⟨S12000, .f32⟩
  | 12 => ⟨S12000, .f32⟩
  | 13 => ⟨S12000x1, .f32⟩
  | 14 => ⟨S12000, .f32⟩
  | 15 => ⟨S12000x1, .f32⟩
  | 16 => ⟨S12000, .f32⟩
  | 17 => ⟨S12000, .f32⟩
  | 18 => ⟨S12000, .f32⟩
  | 19 => ⟨S12000, .i32⟩
  | 20 => ⟨S_, .i32⟩
  | 21 => ⟨S_, .i32⟩
  | 22 => ⟨S12000x4, .f32⟩
  | 23 => ⟨S12000, .f32⟩
  | 24 => ⟨S12000, .i32⟩
  | 25 => ⟨S_, .i32⟩
  | 26 => ⟨S_, .i32⟩
  | 27 => ⟨S12000, .i1⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x1, .f32⟩
  | 47 => ⟨S_, .f32⟩
  | 48 => ⟨S12000x1, .f32⟩
  | 49 => ⟨S12000, .f32⟩
  | 50 => ⟨S12000, .f32⟩
  | 51 => ⟨S12000, .f32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S1x1, .f32⟩
  | 67 => ⟨S_, .f32⟩
  | 68 => ⟨S12000x1, .f32⟩
  | 69 => ⟨S12000, .f32⟩
  | 70 => ⟨S12000, .f32⟩
  | 71 => ⟨S12000, .f32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S1x1, .f32⟩
  | 87 => ⟨S_, .f32⟩
  | 88 => ⟨S12000x1, .f32⟩
  | 89 => ⟨S12000, .f32⟩
  | 90 => ⟨S12000, .f32⟩
  | 91 => ⟨S12000, .f32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1x1, .f32⟩
  | 107 => ⟨S_, .f32⟩
  | 108 => ⟨S12000x1, .f32⟩
  | 109 => ⟨S12000, .f32⟩
  | 110 => ⟨S12000, .f32⟩
  | 111 => ⟨S12000, .f32⟩
  | 112 => ⟨S12000, .f32⟩
  | 113 => ⟨S_, .f32⟩
  | 114 => ⟨S_, .f32⟩
  | 115 => ⟨S12000, .f32⟩
  | 116 => ⟨S12000, .f32⟩
  | 117 => ⟨S12000, .f32⟩
  | 118 => ⟨S_, .f32⟩
  | 119 => ⟨S_, .f32⟩
  | 120 => ⟨S12000, .f32⟩
  | 121 => ⟨S12000, .f32⟩
  | 122 => ⟨S12000, .f32⟩
  | 123 => ⟨S_, .i32⟩
  | 124 => ⟨S_, .i1⟩
  | 125 => ⟨S_, .i32⟩
  | 126 => ⟨S_, .i32⟩
  | 127 => ⟨S_, .i32⟩
  | _ => ⟨S1x512x50x50, .f32⟩

abbrev hbmTy0_3 (i : Nat) : BufTy := match i % 128 with
  | 0 => ⟨S_, .i32⟩
  | 1 => ⟨S1, .f32⟩
  | 2 => ⟨S_, .f32⟩
  | 3 => ⟨S12000, .f32⟩
  | 4 => ⟨S12000, .f32⟩
  | 5 => ⟨S12000, .f32⟩
  | 6 => ⟨S_, .f32⟩
  | 7 => ⟨S12000, .f32⟩
  | 8 => ⟨S12000, .f32⟩
  | 9 => ⟨S12000, .f32⟩
  | 10 => ⟨S_, .f32⟩
  | 11 => ⟨S12000, .f32⟩
  | 12 => ⟨S12000, .i1⟩
  | 13 => ⟨S_, .i32⟩
  | 14 => ⟨S12000, .i32⟩
  | 15 => ⟨S12000, .i1⟩
  | 16 => ⟨S12000, .i1⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S1, .i1⟩
  | 24 => ⟨S_, .i1⟩
  | 25 => ⟨S12000, .i1⟩
  | 26 => ⟨S12000, .i1⟩
  | 27 => ⟨S12000, .i1⟩
  | 28 => ⟨S12000, .i1⟩
  | 29 => ⟨S_, .i32⟩
  | 30 => ⟨S_, .i32⟩
  | 31 => ⟨S12000, .i32⟩
  | 32 => ⟨S_, .i32⟩
  | 33 => ⟨S_, .i32⟩
  | 34 => ⟨S12000, .i32⟩
  | 35 => ⟨S_, .i32⟩
  | 36 => ⟨S2000, .i32⟩
  | 37 => ⟨S_, .i32⟩
  | 38 => ⟨S12000, .i32⟩
  | 39 => ⟨S12000, .i1⟩
  | 40 => ⟨S_, .i32⟩
  | 41 => ⟨S12000, .i32⟩
  | 42 => ⟨S12000, .i32⟩
  | 43 => ⟨S12000, .i32⟩
  | 44 => ⟨S12000x1, .i32⟩
  | 45 => ⟨S_, .i32⟩
  | 46 => ⟨S12000, .i32⟩
  | 47 => ⟨S2000, .i32⟩
  | 48 => ⟨S_, .i32⟩
  | 49 => ⟨S_, .i32⟩
  | 50 => ⟨S2000, .i32⟩
  | 51 => ⟨S_, .i32⟩
  | 52 => ⟨S_, .i32⟩
  | 53 => ⟨S2000, .i32⟩
  | 54 => ⟨S2000, .i32⟩
  | 55 => ⟨S2000, .i32⟩
  | 56 => ⟨S_, .i32⟩
  | 57 => ⟨S2000, .i32⟩
  | 58 => ⟨S2000, .i1⟩
  | 59 => ⟨S2000, .i32⟩
  | 60 => ⟨S2000, .i32⟩
  | 61 => ⟨S_, .i32⟩
  | 62 => ⟨S2000, .i32⟩
  | 63 => ⟨S2000, .i1⟩
  | 64 => ⟨S2000, .i1⟩
  | 65 => ⟨S_, .i32⟩
  | 66 => ⟨S2000, .i32⟩
  | 67 => ⟨S2000, .i32⟩
  | 68 => ⟨S2000, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S2000, .i32⟩
  | 76 => ⟨S2000, .i32⟩
  | 77 => ⟨S_, .i32⟩
  | 78 => ⟨S2000, .i32⟩
  | 79 => ⟨S2000, .i1⟩
  | 80 => ⟨S_, .i32⟩
  | 81 => ⟨S2000, .i32⟩
  | 82 => ⟨S2000, .i1⟩
  | 83 => ⟨S_, .i32⟩
  | 84 => ⟨S_, .i1⟩
  | 85 => ⟨S2000, .i1⟩
  | 86 => ⟨S2000, .i1⟩
  | 87 => ⟨S2000, .i1⟩
  | 88 => ⟨S2000, .i32⟩
  | 89 => ⟨S2000, .i32⟩
  | 90 => ⟨S2000, .i32⟩
  | 91 => ⟨S12000, .i32⟩
  | 92 => ⟨S_, .i32⟩
  | 93 => ⟨S_, .i32⟩
  | 94 => ⟨S1, .i32⟩
  | 95 => ⟨S2000, .i32⟩
  | 96 => ⟨S2000, .i32⟩
  | 97 => ⟨S2000, .i1⟩
  | 98 => ⟨S_, .i32⟩
  | 99 => ⟨S1, .i32⟩
  | 100 => ⟨S2000, .i32⟩
  | 101 => ⟨S2000, .i32⟩
  | 102 => ⟨S_, .i32⟩
  | 103 => ⟨S2000, .i32⟩
  | 104 => ⟨S2000, .i1⟩
  | 105 => ⟨S_, .i32⟩
  | 106 => ⟨S2000, .i32⟩
  | 107 => ⟨S2000, .i32⟩
  | 108 => ⟨S2000, .i32⟩
  | 109 => ⟨S2000x1, .i32⟩
  | 110 => ⟨S2000x4, .f32⟩
  | 111 => ⟨S_, .i32⟩
  | 112 => ⟨S2000, .i32⟩
  | _ => ⟨S1x512x50x50, .f32⟩

abbrev hbmTy (i : Nat) : BufTy := match i / 128 with
  | 0 => hbmTy0_0 i
  | 1 => hbmTy0_1 i
  | 2 => hbmTy0_2 i
  | 3 => hbmTy0_3 i
  | _ => ⟨S1x512x50x50, .f32⟩

abbrev bufTy : (tb : Table) → Fin (tcTables nBuf tb) → BufTy
  | .hbm, ⟨i, _⟩ => hbmTy i
  | _, _ => ⟨S1x512x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_call1_cst : Ref sig .tc := ⟨.hbm, 71, rfl⟩
abbrev main_call1_v0 : Ref sig .tc := ⟨.hbm, 72, rfl⟩
abbrev main_v59 : Ref sig .tc := ⟨.hbm, 73, rfl⟩
abbrev main_c_1 : Ref sig .tc := ⟨.hbm, 74, rfl⟩
abbrev main_call2_v0 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_2 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_3 : Ref sig .tc := ⟨.hbm, 88, rfl⟩
abbrev main_call3_v0 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_4 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_5 : Ref sig .tc := ⟨.hbm, 102, rfl⟩
abbrev main_v82 : Ref sig .tc := ⟨.hbm, 103, rfl⟩
abbrev main_cst_6 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_7 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_8 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_9 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_10 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_11 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_12 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_cst_13 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_cst_14 : Ref sig .tc := ⟨.hbm, 189, rfl⟩
abbrev main_call4_v0 : Ref sig .tc := ⟨.hbm, 190, rfl⟩
abbrev main_call4_v1 : Ref sig .tc := ⟨.hbm, 191, rfl⟩
abbrev main_call4_v2 : Ref sig .tc := ⟨.hbm, 192, rfl⟩
abbrev main_call4_v3 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_15 : Ref sig .tc := ⟨.hbm, 197, rfl⟩
abbrev main_call5_v0 : Ref sig .tc := ⟨.hbm, 198, rfl⟩
abbrev main_call5_v1 : Ref sig .tc := ⟨.hbm, 199, rfl⟩
abbrev main_call5_v2 : Ref sig .tc := ⟨.hbm, 200, rfl⟩
abbrev main_call5_v3 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_cst_16 : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_cst_17 : Ref sig .tc := ⟨.hbm, 213, rfl⟩
abbrev main_call7_v0 : Ref sig .tc := ⟨.hbm, 214, rfl⟩
abbrev main_call7_v1 : Ref sig .tc := ⟨.hbm, 215, rfl⟩
abbrev main_call7_v2 : Ref sig .tc := ⟨.hbm, 216, rfl⟩
abbrev main_call7_v3 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_18 : Ref sig .tc := ⟨.hbm, 226, rfl⟩
abbrev main_v177 : Ref sig .tc := ⟨.hbm, 227, rfl⟩
abbrev main_v178 : Ref sig .tc := ⟨.hbm, 228, rfl⟩
abbrev main_cst_19 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_20 : Ref sig .tc := ⟨.hbm, 233, rfl⟩
abbrev main_call8_v0 : Ref sig .tc := ⟨.hbm, 234, rfl⟩
abbrev main_call8_v1 : Ref sig .tc := ⟨.hbm, 235, rfl⟩
abbrev main_v182 : Ref sig .tc := ⟨.hbm, 236, rfl⟩
abbrev main_v183 : Ref sig .tc := ⟨.hbm, 237, rfl⟩
abbrev main_call9_v0 : Ref sig .tc := ⟨.hbm, 238, rfl⟩
abbrev main_call9_v1_0 : Ref sig .tc := ⟨.hbm, 239, rfl⟩
abbrev main_v184 : Ref sig .tc := ⟨.hbm, 240, rfl⟩
abbrev main_v185 : Ref sig .tc := ⟨.hbm, 241, rfl⟩
abbrev main_c_21 : Ref sig .tc := ⟨.hbm, 242, rfl⟩
abbrev main_v186 : Ref sig .tc := ⟨.hbm, 243, rfl⟩
abbrev main_v187 : Ref sig .tc := ⟨.hbm, 244, rfl⟩
abbrev main_c_22 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_c_23 : Ref sig .tc := ⟨.hbm, 251, rfl⟩
abbrev main_v193 : Ref sig .tc := ⟨.hbm, 252, rfl⟩
abbrev main_v194 : Ref sig .tc := ⟨.hbm, 253, rfl⟩
abbrev main_c_24 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_cst_25 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_c_26 : Ref sig .tc := ⟨.hbm, 276, rfl⟩
abbrev main_c_27 : Ref sig .tc := ⟨.hbm, 277, rfl⟩
abbrev main_v215_0 : Ref sig .tc := ⟨.hbm, 278, rfl⟩
abbrev main_v215_1 : Ref sig .tc := ⟨.hbm, 279, rfl⟩
abbrev main_v215_2 : Ref sig .tc := ⟨.hbm, 280, rfl⟩
abbrev main_v215_3 : Ref sig .tc := ⟨.hbm, 281, rfl⟩
abbrev main_v215_4 : Ref sig .tc := ⟨.hbm, 282, rfl⟩
abbrev main_v215_5 : Ref sig .tc := ⟨.hbm, 283, rfl⟩
abbrev main_while0c_c_44 : Ref sig .tc := ⟨.hbm, 284, rfl⟩
abbrev main_while0c_v245 : Ref sig .tc := ⟨.hbm, 285, rfl⟩
abbrev main_while0b_c_44 : Ref sig .tc := ⟨.hbm, 286, rfl⟩
abbrev main_while0b_v245 : Ref sig .tc := ⟨.hbm, 287, rfl⟩
abbrev main_while0b_v246 : Ref sig .tc := ⟨.hbm, 288, rfl⟩
abbrev main_while0b_c_45 : Ref sig .tc := ⟨.hbm, 289, rfl⟩
abbrev main_while0b_v247 : Ref sig .tc := ⟨.hbm, 290, rfl⟩
abbrev main_while0b_c_46 : Ref sig .tc := ⟨.hbm, 291, rfl⟩
abbrev main_while0b_v248 : Ref sig .tc := ⟨.hbm, 292, rfl⟩
abbrev main_while0b_v249 : Ref sig .tc := ⟨.hbm, 293, rfl⟩
abbrev main_while0b_c_47 : Ref sig .tc := ⟨.hbm, 294, rfl⟩
abbrev main_while0b_c_48 : Ref sig .tc := ⟨.hbm, 295, rfl⟩
abbrev main_while0b_v250 : Ref sig .tc := ⟨.hbm, 296, rfl⟩
abbrev main_while0b_c_49 : Ref sig .tc := ⟨.hbm, 297, rfl⟩
abbrev main_while0b_c_50 : Ref sig .tc := ⟨.hbm, 298, rfl⟩
abbrev main_while0b_v251 : Ref sig .tc := ⟨.hbm, 299, rfl⟩
abbrev main_while0b_c_51 : Ref sig .tc := ⟨.hbm, 300, rfl⟩
abbrev main_while0b_v252 : Ref sig .tc := ⟨.hbm, 301, rfl⟩
abbrev main_while0b_v253 : Ref sig .tc := ⟨.hbm, 302, rfl⟩
abbrev main_while0b_v254 : Ref sig .tc := ⟨.hbm, 303, rfl⟩
abbrev main_while0b_v255 : Ref sig .tc := ⟨.hbm, 304, rfl⟩
abbrev main_while0b_v256 : Ref sig .tc := ⟨.hbm, 305, rfl⟩
abbrev main_while0b_v257 : Ref sig .tc := ⟨.hbm, 306, rfl⟩
abbrev main_while0b_v258 : Ref sig .tc := ⟨.hbm, 307, rfl⟩
abbrev main_while0b_v259 : Ref sig .tc := ⟨.hbm, 308, rfl⟩
abbrev main_while0b_c_52 : Ref sig .tc := ⟨.hbm, 309, rfl⟩
abbrev main_while0b_v260 : Ref sig .tc := ⟨.hbm, 310, rfl⟩
abbrev main_while0b_c_53 : Ref sig .tc := ⟨.hbm, 311, rfl⟩
abbrev main_while0b_v261 : Ref sig .tc := ⟨.hbm, 312, rfl⟩
abbrev main_while0b_v262 : Ref sig .tc := ⟨.hbm, 313, rfl⟩
abbrev main_while0b_c_54 : Ref sig .tc := ⟨.hbm, 314, rfl⟩
abbrev main_while0b_c_55 : Ref sig .tc := ⟨.hbm, 315, rfl⟩
abbrev main_while0b_v263 : Ref sig .tc := ⟨.hbm, 316, rfl⟩
abbrev main_while0b_c_56 : Ref sig .tc := ⟨.hbm, 317, rfl⟩
abbrev main_while0b_c_57 : Ref sig .tc := ⟨.hbm, 318, rfl⟩
abbrev main_while0b_v264 : Ref sig .tc := ⟨.hbm, 319, rfl⟩
abbrev main_while0b_c_58 : Ref sig .tc := ⟨.hbm, 320, rfl⟩
abbrev main_while0b_v265 : Ref sig .tc := ⟨.hbm, 321, rfl⟩
abbrev main_while0b_v266 : Ref sig .tc := ⟨.hbm, 322, rfl⟩
abbrev main_while0b_v267 : Ref sig .tc := ⟨.hbm, 323, rfl⟩
abbrev main_while0b_v268 : Ref sig .tc := ⟨.hbm, 324, rfl⟩
abbrev main_while0b_v269 : Ref sig .tc := ⟨.hbm, 325, rfl⟩
abbrev main_while0b_v270 : Ref sig .tc := ⟨.hbm, 326, rfl⟩
abbrev main_while0b_v271 : Ref sig .tc := ⟨.hbm, 327, rfl⟩
abbrev main_while0b_v272 : Ref sig .tc := ⟨.hbm, 328, rfl⟩
abbrev main_while0b_c_59 : Ref sig .tc := ⟨.hbm, 329, rfl⟩
abbrev main_while0b_v273 : Ref sig .tc := ⟨.hbm, 330, rfl⟩
abbrev main_while0b_c_60 : Ref sig .tc := ⟨.hbm, 331, rfl⟩
abbrev main_while0b_v274 : Ref sig .tc := ⟨.hbm, 332, rfl⟩
abbrev main_while0b_v275 : Ref sig .tc := ⟨.hbm, 333, rfl⟩
abbrev main_while0b_c_61 : Ref sig .tc := ⟨.hbm, 334, rfl⟩
abbrev main_while0b_c_62 : Ref sig .tc := ⟨.hbm, 335, rfl⟩
abbrev main_while0b_v276 : Ref sig .tc := ⟨.hbm, 336, rfl⟩
abbrev main_while0b_c_63 : Ref sig .tc := ⟨.hbm, 337, rfl⟩
abbrev main_while0b_c_64 : Ref sig .tc := ⟨.hbm, 338, rfl⟩
abbrev main_while0b_v277 : Ref sig .tc := ⟨.hbm, 339, rfl⟩
abbrev main_while0b_c_65 : Ref sig .tc := ⟨.hbm, 340, rfl⟩
abbrev main_while0b_v278 : Ref sig .tc := ⟨.hbm, 341, rfl⟩
abbrev main_while0b_v279 : Ref sig .tc := ⟨.hbm, 342, rfl⟩
abbrev main_while0b_v280 : Ref sig .tc := ⟨.hbm, 343, rfl⟩
abbrev main_while0b_v281 : Ref sig .tc := ⟨.hbm, 344, rfl⟩
abbrev main_while0b_v282 : Ref sig .tc := ⟨.hbm, 345, rfl⟩
abbrev main_while0b_v283 : Ref sig .tc := ⟨.hbm, 346, rfl⟩
abbrev main_while0b_v284 : Ref sig .tc := ⟨.hbm, 347, rfl⟩
abbrev main_while0b_v285 : Ref sig .tc := ⟨.hbm, 348, rfl⟩
abbrev main_while0b_c_66 : Ref sig .tc := ⟨.hbm, 349, rfl⟩
abbrev main_while0b_v286 : Ref sig .tc := ⟨.hbm, 350, rfl⟩
abbrev main_while0b_c_67 : Ref sig .tc := ⟨.hbm, 351, rfl⟩
abbrev main_while0b_v287 : Ref sig .tc := ⟨.hbm, 352, rfl⟩
abbrev main_while0b_v288 : Ref sig .tc := ⟨.hbm, 353, rfl⟩
abbrev main_while0b_c_68 : Ref sig .tc := ⟨.hbm, 354, rfl⟩
abbrev main_while0b_c_69 : Ref sig .tc := ⟨.hbm, 355, rfl⟩
abbrev main_while0b_v289 : Ref sig .tc := ⟨.hbm, 356, rfl⟩
abbrev main_while0b_c_70 : Ref sig .tc := ⟨.hbm, 357, rfl⟩
abbrev main_while0b_c_71 : Ref sig .tc := ⟨.hbm, 358, rfl⟩
abbrev main_while0b_v290 : Ref sig .tc := ⟨.hbm, 359, rfl⟩
abbrev main_while0b_c_72 : Ref sig .tc := ⟨.hbm, 360, rfl⟩
abbrev main_while0b_v291 : Ref sig .tc := ⟨.hbm, 361, rfl⟩
abbrev main_while0b_v292 : Ref sig .tc := ⟨.hbm, 362, rfl⟩
abbrev main_while0b_v293 : Ref sig .tc := ⟨.hbm, 363, rfl⟩
abbrev main_while0b_v294 : Ref sig .tc := ⟨.hbm, 364, rfl⟩
abbrev main_while0b_v295 : Ref sig .tc := ⟨.hbm, 365, rfl⟩
abbrev main_while0b_v296 : Ref sig .tc := ⟨.hbm, 366, rfl⟩
abbrev main_while0b_v297 : Ref sig .tc := ⟨.hbm, 367, rfl⟩
abbrev main_while0b_v298 : Ref sig .tc := ⟨.hbm, 368, rfl⟩
abbrev main_while0b_cst_73 : Ref sig .tc := ⟨.hbm, 369, rfl⟩
abbrev main_while0b_call10_v0 : Ref sig .tc := ⟨.hbm, 370, rfl⟩
abbrev main_while0b_call10_v1 : Ref sig .tc := ⟨.hbm, 371, rfl⟩
abbrev main_while0b_v299 : Ref sig .tc := ⟨.hbm, 372, rfl⟩
abbrev main_while0b_v300 : Ref sig .tc := ⟨.hbm, 373, rfl⟩
abbrev main_while0b_cst_74 : Ref sig .tc := ⟨.hbm, 374, rfl⟩
abbrev main_while0b_call11_v0 : Ref sig .tc := ⟨.hbm, 375, rfl⟩
abbrev main_while0b_call11_v1 : Ref sig .tc := ⟨.hbm, 376, rfl⟩
abbrev main_while0b_v301 : Ref sig .tc := ⟨.hbm, 377, rfl⟩
abbrev main_while0b_v302 : Ref sig .tc := ⟨.hbm, 378, rfl⟩
abbrev main_while0b_c_75 : Ref sig .tc := ⟨.hbm, 379, rfl⟩
abbrev main_while0b_v303 : Ref sig .tc := ⟨.hbm, 380, rfl⟩
abbrev main_while0b_v304 : Ref sig .tc := ⟨.hbm, 381, rfl⟩
abbrev main_while0b_c_76 : Ref sig .tc := ⟨.hbm, 382, rfl⟩
abbrev main_while0b_v305 : Ref sig .tc := ⟨.hbm, 383, rfl⟩
abbrev main_while0b_v306 : Ref sig .tc := ⟨.hbm, 384, rfl⟩
abbrev main_while0b_v307 : Ref sig .tc := ⟨.hbm, 385, rfl⟩
abbrev main_while0b_v308 : Ref sig .tc := ⟨.hbm, 386, rfl⟩
abbrev main_while0b_v309 : Ref sig .tc := ⟨.hbm, 387, rfl⟩
abbrev main_while0b_v310 : Ref sig .tc := ⟨.hbm, 388, rfl⟩
abbrev main_while0b_v311 : Ref sig .tc := ⟨.hbm, 389, rfl⟩
abbrev main_while0b_cst_77 : Ref sig .tc := ⟨.hbm, 390, rfl⟩
abbrev main_while0b_v312 : Ref sig .tc := ⟨.hbm, 391, rfl⟩
abbrev main_while0b_v313 : Ref sig .tc := ⟨.hbm, 392, rfl⟩
abbrev main_while0b_v314 : Ref sig .tc := ⟨.hbm, 393, rfl⟩
abbrev main_while0b_cst_78 : Ref sig .tc := ⟨.hbm, 394, rfl⟩
abbrev main_while0b_v315 : Ref sig .tc := ⟨.hbm, 395, rfl⟩
abbrev main_while0b_v316 : Ref sig .tc := ⟨.hbm, 396, rfl⟩
abbrev main_while0b_v317 : Ref sig .tc := ⟨.hbm, 397, rfl⟩
abbrev main_while0b_v318 : Ref sig .tc := ⟨.hbm, 398, rfl⟩
abbrev main_while0b_v319 : Ref sig .tc := ⟨.hbm, 399, rfl⟩
abbrev main_while0b_v320 : Ref sig .tc := ⟨.hbm, 400, rfl⟩
abbrev main_while0b_c_79 : Ref sig .tc := ⟨.hbm, 401, rfl⟩
abbrev main_while0b_v321 : Ref sig .tc := ⟨.hbm, 402, rfl⟩
abbrev main_while0b_v322 : Ref sig .tc := ⟨.hbm, 403, rfl⟩
abbrev main_while0b_c_80 : Ref sig .tc := ⟨.hbm, 404, rfl⟩
abbrev main_while0b_v323 : Ref sig .tc := ⟨.hbm, 405, rfl⟩
abbrev main_while0b_v324 : Ref sig .tc := ⟨.hbm, 406, rfl⟩
abbrev main_while0b_v325 : Ref sig .tc := ⟨.hbm, 407, rfl⟩
abbrev main_while0b_v326 : Ref sig .tc := ⟨.hbm, 408, rfl⟩
abbrev main_while0b_v327 : Ref sig .tc := ⟨.hbm, 409, rfl⟩
abbrev main_while0b_v328 : Ref sig .tc := ⟨.hbm, 410, rfl⟩
abbrev main_while0b_v329 : Ref sig .tc := ⟨.hbm, 411, rfl⟩
abbrev main_while0b_v330 : Ref sig .tc := ⟨.hbm, 412, rfl⟩
abbrev main_while0b_c_81 : Ref sig .tc := ⟨.hbm, 413, rfl⟩
abbrev main_while0b_v331 : Ref sig .tc := ⟨.hbm, 414, rfl⟩
abbrev main_call12_v0 : Ref sig .tc := ⟨.hbm, 415, rfl⟩
abbrev main_call12_call0_c : Ref sig .tc := ⟨.hbm, 416, rfl⟩
abbrev main_call12_call0_v0 : Ref sig .tc := ⟨.hbm, 417, rfl⟩
abbrev main_v216 : Ref sig .tc := ⟨.hbm, 418, rfl⟩
abbrev main_c_28 : Ref sig .tc := ⟨.hbm, 419, rfl⟩
abbrev main_v217 : Ref sig .tc := ⟨.hbm, 420, rfl⟩
abbrev main_c_29 : Ref sig .tc := ⟨.hbm, 421, rfl⟩
abbrev main_v218 : Ref sig .tc := ⟨.hbm, 422, rfl⟩
abbrev main_v219 : Ref sig .tc := ⟨.hbm, 423, rfl⟩
abbrev main_c_30 : Ref sig .tc := ⟨.hbm, 424, rfl⟩
abbrev main_v220 : Ref sig .tc := ⟨.hbm, 425, rfl⟩
abbrev main_v221 : Ref sig .tc := ⟨.hbm, 426, rfl⟩
abbrev main_v222 : Ref sig .tc := ⟨.hbm, 427, rfl⟩
abbrev main_v223 : Ref sig .tc := ⟨.hbm, 428, rfl⟩
abbrev main_c_31 : Ref sig .tc := ⟨.hbm, 429, rfl⟩
abbrev main_v224 : Ref sig .tc := ⟨.hbm, 430, rfl⟩
abbrev main_v225 : Ref sig .tc := ⟨.hbm, 431, rfl⟩
abbrev main_call13_call0_c : Ref sig .tc := ⟨.hbm, 432, rfl⟩
abbrev main_call13_call0_v0 : Ref sig .tc := ⟨.hbm, 433, rfl⟩
abbrev main_v226 : Ref sig .tc := ⟨.hbm, 434, rfl⟩
abbrev main_c_32 : Ref sig .tc := ⟨.hbm, 435, rfl⟩
abbrev main_call14_v0 : Ref sig .tc := ⟨.hbm, 436, rfl⟩
abbrev main_call14_v1 : Ref sig .tc := ⟨.hbm, 437, rfl⟩
abbrev main_call14_v2 : Ref sig .tc := ⟨.hbm, 438, rfl⟩
abbrev main_call14_v3 : Ref sig .tc := ⟨.hbm, 439, rfl⟩
abbrev main_call14_v4 : Ref sig .tc := ⟨.hbm, 440, rfl⟩
abbrev main_call14_v5 : Ref sig .tc := ⟨.hbm, 441, rfl⟩
abbrev main_call14_v6 : Ref sig .tc := ⟨.hbm, 442, rfl⟩
abbrev main_call14_v7 : Ref sig .tc := ⟨.hbm, 443, rfl⟩
abbrev main_call14_v8 : Ref sig .tc := ⟨.hbm, 444, rfl⟩
abbrev main_call14_c : Ref sig .tc := ⟨.hbm, 445, rfl⟩
abbrev main_call14_v9 : Ref sig .tc := ⟨.hbm, 446, rfl⟩
abbrev main_call14_v10 : Ref sig .tc := ⟨.hbm, 447, rfl⟩
abbrev main_call14_v11 : Ref sig .tc := ⟨.hbm, 448, rfl⟩
abbrev main_call14_c_0 : Ref sig .tc := ⟨.hbm, 449, rfl⟩
abbrev main_call14_v12 : Ref sig .tc := ⟨.hbm, 450, rfl⟩
abbrev main_call14_v13 : Ref sig .tc := ⟨.hbm, 451, rfl⟩
abbrev main_v227 : Ref sig .tc := ⟨.hbm, 452, rfl⟩
abbrev main_c_33 : Ref sig .tc := ⟨.hbm, 453, rfl⟩
abbrev main_call15_v0 : Ref sig .tc := ⟨.hbm, 454, rfl⟩
abbrev main_call15_c : Ref sig .tc := ⟨.hbm, 455, rfl⟩
abbrev main_call15_v1 : Ref sig .tc := ⟨.hbm, 456, rfl⟩
abbrev main_call15_c_0 : Ref sig .tc := ⟨.hbm, 457, rfl⟩
abbrev main_call15_v2 : Ref sig .tc := ⟨.hbm, 458, rfl⟩
abbrev main_call15_v3 : Ref sig .tc := ⟨.hbm, 459, rfl⟩
abbrev main_call15_v4 : Ref sig .tc := ⟨.hbm, 460, rfl⟩
abbrev main_call15_c_1 : Ref sig .tc := ⟨.hbm, 461, rfl⟩
abbrev main_call15_v5 : Ref sig .tc := ⟨.hbm, 462, rfl⟩
abbrev main_call15_v6 : Ref sig .tc := ⟨.hbm, 463, rfl⟩
abbrev main_call15_c_2 : Ref sig .tc := ⟨.hbm, 464, rfl⟩
abbrev main_call15_v7 : Ref sig .tc := ⟨.hbm, 465, rfl⟩
abbrev main_call15_v8 : Ref sig .tc := ⟨.hbm, 466, rfl⟩
abbrev main_call15_c_3 : Ref sig .tc := ⟨.hbm, 467, rfl⟩
abbrev main_call15_v9 : Ref sig .tc := ⟨.hbm, 468, rfl⟩
abbrev main_call15_v10 : Ref sig .tc := ⟨.hbm, 469, rfl⟩
abbrev main_call15_v11 : Ref sig .tc := ⟨.hbm, 470, rfl⟩
abbrev main_call15_v12 : Ref sig .tc := ⟨.hbm, 471, rfl⟩
abbrev main_call15_v13 : Ref sig .tc := ⟨.hbm, 472, rfl⟩
abbrev main_call15_v14 : Ref sig .tc := ⟨.hbm, 473, rfl⟩
abbrev main_v228 : Ref sig .tc := ⟨.hbm, 474, rfl⟩
abbrev main_v229 : Ref sig .tc := ⟨.hbm, 475, rfl⟩
abbrev main_c_34 : Ref sig .tc := ⟨.hbm, 476, rfl⟩
abbrev main_v230 : Ref sig .tc := ⟨.hbm, 477, rfl⟩
abbrev main_v231 : Ref sig .tc := ⟨.hbm, 478, rfl⟩
abbrev main_v232 : Ref sig .tc := ⟨.hbm, 479, rfl⟩
abbrev main_v233 : Ref sig .tc := ⟨.hbm, 480, rfl⟩
abbrev main_v234 : Ref sig .tc := ⟨.hbm, 481, rfl⟩
abbrev main_c_35 : Ref sig .tc := ⟨.hbm, 482, rfl⟩
abbrev main_v235 : Ref sig .tc := ⟨.hbm, 483, rfl⟩
abbrev main_call16_v0 : Ref sig .tc := ⟨.hbm, 484, rfl⟩
abbrev main_v236 : Ref sig .tc := ⟨.hbm, 485, rfl⟩
abbrev main_c_36 : Ref sig .tc := ⟨.hbm, 486, rfl⟩
abbrev main_v237 : Ref sig .tc := ⟨.hbm, 487, rfl⟩
abbrev main_v238 : Ref sig .tc := ⟨.hbm, 488, rfl⟩
abbrev main_c_37 : Ref sig .tc := ⟨.hbm, 489, rfl⟩
abbrev main_v239 : Ref sig .tc := ⟨.hbm, 490, rfl⟩
abbrev main_v240 : Ref sig .tc := ⟨.hbm, 491, rfl⟩
abbrev main_v241 : Ref sig .tc := ⟨.hbm, 492, rfl⟩
abbrev main_v242 : Ref sig .tc := ⟨.hbm, 493, rfl⟩
abbrev main_v243 : Ref sig .tc := ⟨.hbm, 494, rfl⟩
abbrev main_c_38 : Ref sig .tc := ⟨.hbm, 495, rfl⟩
abbrev main_v244 : Ref sig .tc := ⟨.hbm, 496, rfl⟩

abbrev nD : Nat := 1
abbrev τ : Topo := Topo.v7x

variable {F : FTy → Type} [FloatOps F]

abbrev main_while0_count : Scf.Loop 32 := ⟨0#32, 12000#32, 1#32⟩
-- ==== Proof.Keep.lean ====
/- Buffers that operations do not write keep their contents: for one list of operations, for the beginning or the end of a list,
   for several lists, for the trips of a loop. -/
module

public import Idealize.ShloMosaic.Lib.StableHlo
public import Idealize.ShloMosaic.Lib.StableHlo.Run
public import Idealize.ShloMosaic.Lib.StableHlo.RunLoop

@[expose] public section

noncomputable section

namespace Cert.Keep

open Idealize.ShloMosaic Idealize.ShloMosaic.StableHlo Idealize.SL.Sem

variable {τ : Topo} {sig : RefSig} {F : FTy → Type}

/-- The operations leave the buffer `r` as it is, whatever the contents. -/
def Keeps (r : Ref sig .tc) (ops : List (HloOp τ sig (Elt F))) : Prop :=
  ∀ V, after ops V (Proc.devRef .tc r) = V (Proc.devRef .tc r)

/-- All operations write only what is in `W`. -/
abbrev Writes (W : List (Ref sig .tc)) (ops : List (HloOp τ sig (Elt F))) : Prop :=
  ops.Forall fun op => op.writes ⊆ (W.map (Proc.devRef (τ := τ) .tc)).toFinset

variable {r : Ref sig .tc} {W : List (Ref sig .tc)} {ops : List (HloOp τ sig (Elt F))}

/-- Operations that do not write `r` leave it as it is. -/
theorem keeps (hw : Writes W ops) (hr : r ∉ W) : Keeps r ops := fun V => after_of_writes_sub ops V hw hr

/-- So do the first `n` of them. -/
theorem keeps_take (n : ℕ) (hw : Writes W ops) (hr : r ∉ W) : Keeps r (ops.take n) :=
  keeps (W := W) (List.forall_iff_forall_mem.mpr fun op ho => List.forall_iff_forall_mem.mp hw op (List.mem_of_mem_take ho)) hr

/-- So do those that come after the first `n`. -/
theorem keeps_drop (n : ℕ) (hw : Writes W ops) (hr : r ∉ W) : Keeps r (ops.drop n) :=
  keeps (W := W) (List.forall_iff_forall_mem.mpr fun op ho => List.forall_iff_forall_mem.mp hw op (List.mem_of_mem_drop ho)) hr

/-- Lists that all leave `r` as it is do so one after another. -/
theorem keepsL {items : List (List (HloOp τ sig (Elt F)))} (h : ∀ ops ∈ items, Keeps r ops) (V : Valuation τ sig (Elt F)) :
    afterL items V (Proc.devRef .tc r) = V (Proc.devRef .tc r) := by
  induction items generalizing V with
  | nil => rfl
  | cons ops rest ih =>
    rw [afterL_cons, ih (fun o ho => h o (List.mem_cons_of_mem _ ho))]
    exact h ops List.mem_cons_self V

/-- A loop whose condition and whose body leave `r` as it is leaves it as it is. -/
theorem keeps_trips {nD : ℕ} {condOps : List (HloOp τ sig (Elt F))} {bodyI : List (List (HloOp τ sig (Elt F)))} (hc : Keeps r condOps)
    (hb : ∀ ops ∈ bodyI, Keeps r ops) (W₀ : Dev nD → Valuation τ sig (Elt F)) (c : Dev nD) :
    ∀ k, atTrip condOps bodyI W₀ k c (Proc.devRef .tc r) = W₀ c (Proc.devRef .tc r)
  | 0 => rfl
  | k + 1 => ((keepsL hb _).trans (hc _)).trans (keeps_trips hc hb W₀ c k)

end Cert.Keep

end
end
-- ==== Proof.Conv.lean ====
/- The convolution of the region proposal network and its two heads, entry by entry: what one tap of the 3x3 convolution
   adds, the whole convolution at one pixel, and the layouts that the two programs keep the same numbers in. -/
module

public import proofs.«01_k».proof.KernelIdeal.P01
public import proofs.«01_k».proof.ReferenceIdeal.P01
public import Idealize.ShloMosaic.Lib.Pointwise
public import Idealize.ShloMosaic.Lib.DynamicIndex
public import Idealize.ShloMosaic.Lib.KernelVsHost

@[expose] public section

set_option maxRecDepth 16384

noncomputable section

namespace Cert.Conv

open Idealize.ShloMosaic Idealize.ShloMosaic.StableHlo Idealize.SL.Sem
open Cert.KernelIdeal

/-- What the tap `i`, `j` of the convolution adds to output channel `o` at the pixel `y`, `x`, of the padded image `P`. -/
def tap (P : Fin 512 → Fin 52 → Fin 52 → EReal) (W : S512x512x3x3.Idx → EReal) (o : Fin 512) (y x : Fin 50) (i j : Fin 3) : EReal :=
  ∑ k : Fin 512, P k ⟨i.val + y.val, by omega⟩ ⟨j.val + x.val, by omega⟩ * W (ix4 o k i j)

/-- The convolution with its bias, of output channel `o` at the pixel `y`, `x`: the nine taps row by row. -/
def conv (P : Fin 512 → Fin 52 → Fin 52 → EReal) (W : S512x512x3x3.Idx → EReal) (b : S512.Idx → EReal) (o : Fin 512) (y x : Fin 50) : EReal :=
  tap P W o y x 0 0 + tap P W o y x 0 1 + tap P W o y x 0 2 + tap P W o y x 1 0 + tap P W o y x 1 1 + tap P W o y x 1 2
    + tap P W o y x 2 0 + tap P W o y x 2 1 + tap P W o y x 2 2 + b (ix1 o)

/-- The sum that the kernel's product has in the row `n` below that of pixel `p`, where `n` is the distance of the tap `i`, `j`
    in rows of 52: it is the tap at that pixel. -/
theorem tap_eq (X : S2712x512.Idx → EReal) (W : S512x512x3x3.Idx → EReal) (P : Fin 512 → Fin 52 → Fin 52 → EReal)
    (hP : ∀ (r : Fin 2704) (k : Fin 512), X (ix2 ⟨r.val, by omega⟩ k) = P k ⟨r.val / 52, by omega⟩ ⟨r.val % 52, by omega⟩)
    (p : Fin 2500) (o : Fin 512) (i j : Fin 3) (n m : ℕ) (hn : n = i.val * 52 + j.val) (hm : m = 0)
    (h₁ : n + (p.val / 50 * 52 + p.val % 50) < 2712) (h₂ : m + o.val < 512) :
      (∑ k : Fin 512, X (ix2 ⟨n + (p.val / 50 * 52 + p.val % 50), h₁⟩ k) * W (ix4 ⟨m + o.val, h₂⟩ k i j))
        = tap P W o ⟨p.val / 50, by omega⟩ ⟨p.val % 50, by omega⟩ i j := by
  subst hn hm
  refine Finset.sum_congr rfl fun k _ => ?_
  have e := hP ⟨i.val * 52 + j.val + (p.val / 50 * 52 + p.val % 50), by omega⟩ k
  refine congrArg₂ (· * ·) (e.trans (congrArg₂ (P k) (Fin.ext ?_) (Fin.ext ?_))) (congrArg (fun q => W (ix4 q k i j)) (Fin.ext ?_))
  · show (i.val * 52 + j.val + (p.val / 50 * 52 + p.val % 50)) / 52 = i.val + p.val / 50; omega
  · show (i.val * 52 + j.val + (p.val / 50 * 52 + p.val % 50)) % 52 = j.val + p.val % 50; omega
  · show 0 + o.val = o.val; omega

/-- The reference's sum for a tap, weights first, is the tap. -/
theorem tap_comm (X : Cert.ReferenceIdeal.S1x512x52x52.Idx → EReal) (W : S512x512x3x3.Idx → EReal) (o : Fin 512) (y x : Fin 50)
    (i j : Fin 3) (a b : Fin 52) (ha : a.val = i.val + y.val) (hb : b.val = j.val + x.val) :
    (∑ k : Fin 512, W (ix4 o k i j) * X (ix4 0 k a b)) = tap (fun k a b => X (ix4 0 k a b)) W o y x i j := by
  rw [show a = ⟨i.val + y.val, by omega⟩ from Fin.ext ha, show b = ⟨j.val + x.val, by omega⟩ from Fin.ext hb]
  exact Finset.sum_congr rfl fun k _ => mul_comm _ _

/-- Sums of equal terms are equal. -/
theorem sum_eq {a a' b b' : EReal} (ha : a = a') (hb : b = b') : a + b = a' + b' := by rw [ha, hb]

/-- The image padded by one pixel, with the channels last, has the numbers of the padded image with the channels first. -/
theorem pad_eq (x : FVec Ideal S1x512x50x50 .f32) (v : FVec Ideal S_ .f32) (hc) (ht) (hp) (hq) (hu) (hu') (a b : Fin 52) (k : Fin 512) :
    pad S52x52x512 ![1, 1, 0] ![1, 1, 0] ![0, 0, 0] (transpose S50x50x512 [1, 2, 0] (shapeCast S512x50x50 x hc) ht) v hp hu (ix3 a b k)
    = pad Cert.ReferenceIdeal.S1x512x52x52 ![0, 0, 1, 1] ![0, 0, 1, 1] ![0, 0, 0, 0] x v hq hu' (ix4 0 k a b) := by
  pointwise

/-- The padded image flattened to rows, with rows of zeros below: row `r` is the pixel `r / 52`, `r % 52`. -/
theorem padK (X : FVec Ideal S52x52x512 .f32) (Z : FVec Ideal S8x512 .f32) (hc) (hh) (r : Fin 2704) (k : Fin 512) :
   concatenate S2712x512 0 [⟨S2704x512, shapeCast S2704x512 X hc⟩, ⟨S8x512, Z⟩] hh (ix2 ⟨r.val, by omega⟩ k) = X (ix3 ⟨r.val / 52, by omega⟩ ⟨r.val % 52, by omega⟩ k) := by
  pointwise

/-- A padding of no width changes nothing. -/
theorem pad0 (x : FVec Ideal S1x512x50x50 .f32) (v : FVec Ideal S_ .f32) (hp) (hu) :
    pad S1x512x50x50 ![0, 0, 0, 0] ![0, 0, 0, 0] ![0, 0, 0, 0] x v hp hu = x := by
  funext j
  exact pad_apply_of_inside _ _ _ _ _ _ _ _ j (fun a => by fin_cases a <;> simp)

variable [Cert.KernelIdeal.Facts₀] [Cert.KernelIdeal.Facts] [Cert.ReferenceIdeal.Facts₀] [Cert.ReferenceIdeal.Facts]

/-- The locations head at one pixel: the kernel multiplies the row by the transposed weights, the reference the weights by the
    channels; the products are the same. -/
theorem head36 (H : FVec Ideal S2500x512 .f32) (G : FVec Ideal S1x512x50x50 .f32) (W : FVec Ideal S36x512x1x1 .f32) (b : FVec Ideal S36 .f32)
    (z : FVec Ideal Cert.ReferenceIdeal.S1x36x50x50 .f32) (hz : ∀ j, z j = 0)
    (hHG : ∀ (p : Fin 2500) (k : Fin 512), H (ix2 p k) = G (ix4 0 k ⟨p.val / 50, by omega⟩ ⟨p.val % 50, by omega⟩))
    (hc) (ht) (hb₁) (hb₂) (hc') (ht₁) (ht₂) (hd₁) (hd₂) (p : Fin 2500) (c : Fin 36) :
    addf (Host.dotGeneral dot_S2500x512_S512x36_S2500x36_1_0_0_1_n_n none H (transpose S512x36 [1, 0] (shapeCast S36x512 W hc) ht) : FVec Ideal S2500x36 .f32)
        (broadcastInDim S2500x36 ![0, 1] hb₂ (broadcastInDim S1x36 ![1] hb₁ b)) (ix2 p c)
    = (transpose Cert.ReferenceIdeal.S1x50x50x36 [0, 2, 3, 1] (addf (addf z (transpose Cert.ReferenceIdeal.S1x36x50x50 [1, 0, 2, 3]
        (Host.dotGeneral Cert.ReferenceIdeal.dot_S36x512_S1x512x50x50_S36x1x50x50_1_1_0_023_n_n none (shapeCast S36x512 W hc') G : FVec Ideal _ .f32) ht₁))
        (broadcastInDim Cert.ReferenceIdeal.S1x36x50x50 ![0, 1, 2, 3] hd₂ (broadcastInDim Cert.ReferenceIdeal.S1x36x1x1 ![1] hd₁ b))) ht₂ : FVec Ideal _ .f32)
      (ix4 0 ⟨p.val / 50, by omega⟩ ⟨p.val % 50, by omega⟩ c) := by
  pointwise [hz, hHG]
  exact congrArg (· + _) (Finset.sum_congr rfl fun k _ => mul_comm _ _)

/-- The scores head at one pixel, in the same way. -/
theorem head18 (H : FVec Ideal S2500x512 .f32) (G : FVec Ideal S1x512x50x50 .f32) (W : FVec Ideal S18x512x1x1 .f32) (b : FVec Ideal S18 .f32)
    (z : FVec Ideal Cert.ReferenceIdeal.S1x18x50x50 .f32) (hz : ∀ j, z j = 0)
    (hHG : ∀ (p : Fin 2500) (k : Fin 512), H (ix2 p k) = G (ix4 0 k ⟨p.val / 50, by omega⟩ ⟨p.val % 50, by omega⟩))
    (hc) (ht) (hb₁) (hb₂) (hc') (ht₁) (ht₂) (hd₁) (hd₂) (p : Fin 2500) (c : Fin 18) :
    addf (Host.dotGeneral dot_S2500x512_S512x18_S2500x18_1_0_0_1_n_n none H (transpose S512x18 [1, 0] (shapeCast S18x512 W hc) ht) : FVec Ideal S2500x18 .f32)
        (broadcastInDim S2500x18 ![0, 1] hb₂ (broadcastInDim S1x18 ![1] hb₁ b)) (ix2 p c)
    = (transpose Cert.ReferenceIdeal.S1x50x50x18 [0, 2, 3, 1] (addf (addf z (transpose Cert.ReferenceIdeal.S1x18x50x50 [1, 0, 2, 3]
        (Host.dotGeneral Cert.ReferenceIdeal.dot_S18x512_S1x512x50x50_S18x1x50x50_1_1_0_023_n_n none (shapeCast S18x512 W hc') G : FVec Ideal _ .f32) ht₁))
        (broadcastInDim Cert.ReferenceIdeal.S1x18x50x50 ![0, 1, 2, 3] hd₂ (broadcastInDim Cert.ReferenceIdeal.S1x18x1x1 ![1] hd₁ b))) ht₂ : FVec Ideal _ .f32)
      (ix4 0 ⟨p.val / 50, by omega⟩ ⟨p.val % 50, by omega⟩ c) := by
  pointwise [hz, hHG]
  exact congrArg (· + _) (Finset.sum_congr rfl fun k _ => mul_comm _ _)

/-- Two tensors with the same entries per pixel and channel are the same as a list of anchors with four numbers each. -/
theorem reshape36 {α : Type} (A : S2500x36.Idx → α) (B : Cert.ReferenceIdeal.S1x50x50x36.Idx → α)
    (h : ∀ (p : Fin 2500) (c : Fin 36), A (ix2 p c) = B (ix4 0 ⟨p.val / 50, by omega⟩ ⟨p.val % 50, by omega⟩ c)) (hc) (hc') :
    (shapeCast S1x22500x4 A hc) = shapeCast S1x22500x4 B hc' := by
  funext i
  idx_vars i
  pointwise [h]
  simp only [Nat.div_div_eq_div_mul]

/-- Two tensors with the same entries per pixel and channel are the same as a list of anchors with two numbers each. -/
theorem reshape18 {α : Type} (A : S2500x18.Idx → α) (B : Cert.ReferenceIdeal.S1x50x50x18.Idx → α)
    (h : ∀ (p : Fin 2500) (c : Fin 18), A (ix2 p c) = B (ix4 0 ⟨p.val / 50, by omega⟩ ⟨p.val % 50, by omega⟩ c)) (hc) (hc') :
    (shapeCast S1x22500x2 A hc) = shapeCast S1x22500x2 B hc' := by
  funext i
  idx_vars i
  pointwise [h]
  simp only [Nat.div_div_eq_div_mul]

/-- The same with the pixel and the anchor kept apart. -/
theorem reshape18' {α : Type} (A : S2500x18.Idx → α) (B : Cert.ReferenceIdeal.S1x50x50x18.Idx → α)
    (h : ∀ (p : Fin 2500) (c : Fin 18), A (ix2 p c) = B (ix4 0 ⟨p.val / 50, by omega⟩ ⟨p.val % 50, by omega⟩ c)) (hc) (hc') :
    (shapeCast S1x50x50x9x2 A hc) = shapeCast S1x50x50x9x2 B hc' := by
  funext i
  idx_vars i
  pointwise [h]
  rw [show (⟨(i1.val * 50 + i2.val) / 50, by omega⟩ : Fin 50) = i1 from Fin.ext (by show (i1.val * 50 + i2.val) / 50 = i1.val; omega),
    show (⟨(i1.val * 50 + i2.val) % 50, by omega⟩ : Fin 50) = i2 from Fin.ext (by show (i1.val * 50 + i2.val) % 50 = i2.val; omega)]

end Cert.Conv
-- ==== Proof.ConvKernel.lean ====
/- The kernel's convolution: the padded image's rows end to end, nine shifted stretches of them multiplied by the weights' slices. -/
module

public import proofs.«01_k».proof.Proof.Conv
public import proofs.«01_k».proof.Proof.Gen.KernelIdeal.Frame
public import Idealize.ShloMosaic.Lib.StableHlo.RunClose
public import Idealize.ShloMosaic.Lib.StableHlo.RunRead

@[expose] public section

set_option maxRecDepth 16384

noncomputable section

namespace Cert.Conv

open Idealize.ShloMosaic Idealize.ShloMosaic.StableHlo Idealize.SL.Sem
open Cert.KernelIdeal Cert.KernelIdeal.Gen

/-- The rows end to end: row `r` is the pixel in row `r / 52` and column `r % 52` of the padded image. -/
theorem kernel_rows (V : Valuation τ sig (Elt Ideal)) (r : Fin 2704) (k : Fin 512) : after (hostOps0_2.take 4) V (Proc.devRef .tc main_v5) (ix2 ⟨r.val, by omega⟩ k) = V (Proc.devRef .tc main_v2) (ix3 ⟨r.val / 52, by omega⟩ ⟨r.val % 52, by omega⟩ k) := by
  simp only [List.take_succ_cons, List.take_zero]
  after_results
  pointwise

/-- Where a stretch begins, row-wise: the constant start, kept within bounds. -/
theorem start0 (h) (a c : BitVec 32) : Host.clampedStart S2712x512 S2600x512 h (fun k => BitVec.toInt ((![constantI S_ 32 a, constantI S_ 32 c] : Fin 2 → IVec S_ 32) k (Shape.Idx.first h_S_))) 0
    = (min (max a.toInt 0) 112).toNat := rfl

/-- Where a stretch begins, column-wise. -/
theorem start1 (h) (a c : BitVec 32) : Host.clampedStart S2712x512 S2600x512 h (fun k => BitVec.toInt ((![constantI S_ 32 a, constantI S_ 32 c] : Fin 2 → IVec S_ 32) k (Shape.Idx.first h_S_))) 1
    = (min (max c.toInt 0) 0).toNat := rfl

/-- What the kernel's convolution leaves, at every pixel and output channel. -/
theorem kernel_conv (V : Valuation τ sig (Elt Ideal)) (P : Fin 512 → Fin 52 → Fin 52 → EReal)
    (hP : ∀ (r : Fin 2704) (k : Fin 512), (V (Proc.devRef .tc main_v5) (ix2 ⟨r.val, by omega⟩ k) : EReal) = P k ⟨r.val / 52, by omega⟩ ⟨r.val % 52, by omega⟩)
    (p : Fin 2500) (o : Fin 512) : after (hostOps0_2.drop 4) V (Proc.devRef .tc main_v66) (ix2 p o)
      = conv P (V (Proc.devRef .tc main_arg2)) (V (Proc.devRef .tc main_arg3)) o ⟨p.val / 50, by omega⟩ ⟨p.val % 50, by omega⟩ := by
  have key := tap_eq (V (Proc.devRef .tc main_v5)) (V (Proc.devRef .tc main_arg2)) P hP p o
  simp only [List.drop_succ_cons, List.drop_zero]
  after_results_simp_entrywise
  pointwise
  simp only [start0, start1]
  unfold conv
  refine sum_eq (sum_eq (sum_eq (sum_eq (sum_eq (sum_eq (sum_eq (sum_eq (sum_eq ?_ ?_) ?_) ?_) ?_) ?_) ?_) ?_) ?_) rfl
  · exact key 0 0 _ _ rfl rfl _ _
  · exact key 0 1 _ _ rfl rfl _ _
  · exact key 0 2 _ _ rfl rfl _ _
  · exact key 1 0 _ _ rfl rfl _ _
  · exact key 1 1 _ _ rfl rfl _ _
  · exact key 1 2 _ _ rfl rfl _ _
  · exact key 2 0 _ _ rfl rfl _ _
  · exact key 2 1 _ _ rfl rfl _ _
  · exact key 2 2 _ _ rfl rfl _ _

end Cert.Conv

end
end
-- ==== Proof.ConvReference.lean ====
/- The reference's convolution: a sum of nine products of slices of the padded image and of the weights. -/
module

public import proofs.«01_k».proof.Proof.Conv
public import proofs.«01_k».proof.Proof.Gen.ReferenceIdeal.Run
public import Idealize.ShloMosaic.Lib.StableHlo.RunClose

@[expose] public section

set_option maxRecDepth 16384

noncomputable section

namespace Cert.Conv

open Idealize.ShloMosaic Idealize.ShloMosaic.StableHlo Idealize.SL.Sem
open Cert.ReferenceIdeal Cert.ReferenceIdeal.Gen

/-- What the reference's convolution leaves, at every pixel and output channel. -/
theorem reference_conv (V : Valuation τ sig (Elt Ideal)) (o : Fin 512) (y x : Fin 50) :
    after hostOps0_2 V (Proc.devRef .tc main_v58) (ix4 0 o y x)
      = conv (fun k a b => V (Proc.devRef .tc main_v0) (ix4 0 k a b)) (V (Proc.devRef .tc main_arg2)) (V (Proc.devRef .tc main_arg3)) o y x := by
  after_results_simp_entrywise
  pointwise
  have key := tap_comm (V (Proc.devRef .tc main_v0)) (V (Proc.devRef .tc main_arg2)) o y x
  unfold conv
  refine sum_eq (sum_eq (sum_eq (sum_eq (sum_eq (sum_eq (sum_eq (sum_eq (sum_eq ?_ ?_) ?_) ?_) ?_) ?_) ?_) ?_) ?_) rfl
  · exact key 0 0 _ _ (Nat.zero_add _).symm (Nat.zero_add _).symm
  · exact key 0 1 _ _ (Nat.zero_add _).symm rfl
  · exact key 0 2 _ _ (Nat.zero_add _).symm rfl
  · exact key 1 0 _ _ rfl (Nat.zero_add _).symm
  · exact key 1 1 _ _ rfl rfl
  · exact key 1 2 _ _ rfl rfl
  · exact key 2 0 _ _ rfl (Nat.zero_add _).symm
  · exact key 2 1 _ _ rfl rfl
  · exact key 2 2 _ _ rfl rfl

end Cert.Conv

end
end
-- ==== Proof.Hidden.lean ====
/- The hidden layer of the network: the convolution's positive part, which both programs compute from the same image, weights
   and biases. -/
module

public import proofs.«01_k».proof.Proof.ConvKernel
public import proofs.«01_k».proof.Proof.ConvReference

@[expose] public section

set_option maxRecDepth 16384

noncomputable section

namespace Cert.Conv

open Idealize.ShloMosaic Idealize.ShloMosaic.StableHlo Idealize.SL.Sem

/-- The image with a border of one pixel. -/
def padded (X : FVec Ideal Cert.ReferenceIdeal.S1x512x50x50 .f32) (k : Fin 512) (a b : Fin 52) : EReal :=
  pad Cert.ReferenceIdeal.S1x512x52x52 ![0, 0, 1, 1] ![0, 0, 1, 1] ![0, 0, 0, 0] X
    (sitofp (F := Ideal) .f32 (constantI Cert.ReferenceIdeal.S_ 32 0#32)) Cert.ReferenceIdeal.Gen.pads_S1x512x50x50_S1x512x52x52_000_000_110_110
    Cert.ReferenceIdeal.Gen.h_S_ (ix4 0 k a b)

/-- The hidden layer's channel `o` at the pixel `y`, `x`. -/
def hidden (X : FVec Ideal Cert.ReferenceIdeal.S1x512x50x50 .f32) (W : Cert.KernelIdeal.S512x512x3x3.Idx → EReal)
    (b : Cert.KernelIdeal.S512.Idx → EReal) (o : Fin 512) (y x : Fin 50) : EReal :=
  max (conv (padded X) W b o y x) 0

section Kernel

open Cert.KernelIdeal Cert.KernelIdeal.Gen

/-- The kernel pads its input, whose channels lie last, with the same zeros. -/
theorem kernel_padded (V : Valuation τ sig (Elt Ideal)) (k : Fin 512) (a b : Fin 52) :
    after hostOps0_1 (after hostOps0 V) (Proc.devRef .tc main_v2) (ix3 a b k) = padded (V (Proc.devRef .tc main_arg0)) k a b := by
  after_results_simp
  exact pad_eq (V (Proc.devRef .tc main_arg0)) (sitofp (F := Ideal) .f32 (constantI S_ 32 0#32)) shapeCasts_S1x512x50x50_S512x50x50
    transposes_S512x50x50_S50x50x512_1_2_0 pads_S50x50x512_S52x52x512_110_110_000
    Cert.ReferenceIdeal.Gen.pads_S1x512x50x50_S1x512x52x52_000_000_110_110 h_S_ Cert.ReferenceIdeal.Gen.h_S_ a b k

/-- The kernel replaces what is negative by zero. -/
theorem kernel_relu (V : Valuation τ sig (Elt Ideal)) (p : Fin 2500) (o : Fin 512) :
    after hostOps0_3 V (Proc.devRef .tc main_v67) (ix2 p o) = max (α := EReal) (V (Proc.devRef .tc main_v66) (ix2 p o)) 0 := by
  after_results_simp
  show maximumf (F := Ideal) (V (Proc.devRef .tc main_v66)) (broadcastInDim S2500x512 ![] bcast_S_S2500x512 (constant S_ .f32 0#32)) (ix2 p o) = _
  pointwise

/-- The kernel's hidden layer. -/
theorem kernel_hidden (V : Valuation τ sig (Elt Ideal)) (p : Fin 2500) (o : Fin 512) :
    afterL [hostOps0, hostOps0_1, hostOps0_2, hostOps0_3] V (Proc.devRef .tc main_v67) (ix2 p o)
      = hidden (V (Proc.devRef .tc main_arg0)) (V (Proc.devRef .tc main_arg2)) (V (Proc.devRef .tc main_arg3)) o
        ⟨p.val / 50, by omega⟩ ⟨p.val % 50, by omega⟩ := by
  simp only [afterL_cons, afterL_nil]
  have kept : ∀ r ∈ argRefs, after (hostOps0_2.take 4) (after hostOps0_1 (after hostOps0 V)) (Proc.devRef .tc r) = V (Proc.devRef .tc r) := by
    intro r hr
    rw [after_of_writes_sub (W := hostOps0_2_W) _ _ (List.forall_iff_forall_mem.mpr fun op ho =>
        List.forall_iff_forall_mem.mp hostOps0_2_writes op (List.mem_of_mem_take ho)) (hostOps0_2_args r hr),
      after_of_writes_sub hostOps0_1 _ hostOps0_1_writes (hostOps0_1_args r hr),
      after_of_writes_sub hostOps0 _ hostOps0_writes (hostOps0_args r hr)]
  have hc := kernel_conv (after (hostOps0_2.take 4) (after hostOps0_1 (after hostOps0 V))) (padded (V (Proc.devRef .tc main_arg0)))
    (fun r k => (kernel_rows _ r k).trans (kernel_padded V k _ _)) p o
  rw [← after_append, List.take_append_drop] at hc
  rw [kernel_relu, hidden]
  refine congrArg (fun u : EReal => max u 0) (hc.trans ?_)
  rw [kept main_arg2 (by decide +kernel), kept main_arg3 (by decide +kernel)]

end Kernel

section Reference

open Cert.ReferenceIdeal Cert.ReferenceIdeal.Gen Cert.ReferenceIdeal.Value

/-- The reference pads its input with zeros. -/
theorem reference_padded (W : Valuation τ sig (Elt Ideal)) (k : Fin 512) (a b : Fin 52) :
    after hostOps0_1 (after hostOps0 W) (Proc.devRef .tc main_v0) (ix4 0 k a b) = padded (W (Proc.devRef .tc main_arg0)) k a b := by
  after_results_simp
  rfl

/-- The reference replaces what is negative by zero. -/
theorem reference_relu (W : Valuation τ sig (Elt Ideal)) (o : Fin 512) (y x : Fin 50) :
    after hostOps0_3 W (Proc.devRef .tc main_v59) (ix4 0 o y x) = max (α := EReal) (W (Proc.devRef .tc main_v58) (ix4 0 o y x)) 0 := by
  after_results_simp
  show maximumf (F := Ideal) (W (Proc.devRef .tc main_v58)) (broadcastInDim S1x512x50x50 ![] bcast_S_S1x512x50x50 (constant S_ .f32 0#32)) (ix4 0 o y x) = _
  pointwise

/-- The reference's hidden layer. -/
theorem reference_hidden (W : Valuation τ sig (Elt Ideal)) (o : Fin 512) (y x : Fin 50) :
    afterL [hostOps0, hostOps0_1, hostOps0_2, hostOps0_3] W (Proc.devRef .tc main_v59) (ix4 0 o y x)
      = hidden (W (Proc.devRef .tc main_arg0)) (W (Proc.devRef .tc main_arg2)) (W (Proc.devRef .tc main_arg3)) o y x := by
  simp only [afterL_cons, afterL_nil]
  rw [reference_relu, reference_conv, hidden]
  have e₂ : after hostOps0_1 (after hostOps0 W) (Proc.devRef .tc main_arg2) = W (Proc.devRef .tc main_arg2) := by
    after_results_simp
  have e₃ : after hostOps0_1 (after hostOps0 W) (Proc.devRef .tc main_arg3) = W (Proc.devRef .tc main_arg3) := by
    after_results_simp
  rw [e₂, e₃]
  refine congrArg (fun P => max (conv P _ _ o y x) 0) ?_
  funext k a b
  exact reference_padded W k a b

end Reference

end Cert.Conv

end
end
-- ==== Proof.Heads.lean ====
/- The two heads of the network: the locations and the scores that the programs compute from hidden layers with the same
   numbers are the same. -/
module

public import proofs.«01_k».proof.Proof.Conv
public import proofs.«01_k».proof.Proof.Gen.KernelIdeal.Frame
public import proofs.«01_k».proof.Proof.Gen.ReferenceIdeal.Run
public import Idealize.ShloMosaic.Lib.StableHlo.RunClose

@[expose] public section

set_option maxRecDepth 16384

noncomputable section

namespace Cert.Conv

open Idealize.ShloMosaic Idealize.ShloMosaic.StableHlo Idealize.SL.Sem
open Cert.KernelIdeal Cert.KernelIdeal.Gen

/-- The hidden layers have the same numbers. -/
abbrev SameHidden (V : Valuation τ sig (Elt Ideal)) (W : Valuation Cert.ReferenceIdeal.τ Cert.ReferenceIdeal.sig (Elt Ideal)) : Prop :=
  ∀ (p : Fin 2500) (k : Fin 512), (V (Proc.devRef .tc main_v67) (ix2 p k) : EReal)
    = W (Proc.devRef .tc Cert.ReferenceIdeal.main_v59) (ix4 0 k ⟨p.val / 50, by omega⟩ ⟨p.val % 50, by omega⟩)

/-- Zeros, spread out. -/
theorem zeros {s : Shape} (d h) (j : s.Idx) : broadcastInDim (s := Cert.ReferenceIdeal.S_) s d h (constant (F := Ideal) Cert.ReferenceIdeal.S_ .f32 0#32) j = 0 := by
  pointwise

variable (V : Valuation τ sig (Elt Ideal)) (W : Valuation Cert.ReferenceIdeal.τ Cert.ReferenceIdeal.sig (Elt Ideal))

/-- The locations. -/
theorem locs_eq (h : SameHidden V W)
    (h₄ : (V (Proc.devRef .tc main_arg4) : S36x512x1x1.Idx → EReal) = W (Proc.devRef .tc Cert.ReferenceIdeal.main_arg4))
    (h₅ : (V (Proc.devRef .tc main_arg5) : S36.Idx → EReal) = W (Proc.devRef .tc Cert.ReferenceIdeal.main_arg5)) :
    (after (hostOps0_4.take 15) V (Proc.devRef .tc main_v80) : S1x22500x4.Idx → EReal)
      = afterL [Cert.ReferenceIdeal.Gen.hostOps0_4, Cert.ReferenceIdeal.Gen.hostOps0_5, Cert.ReferenceIdeal.Gen.hostOps0_6] W
          (Proc.devRef .tc Cert.ReferenceIdeal.main_v70) := by
  simp only [afterL_cons, afterL_nil, List.take_succ_cons, List.take_zero]
  after_results_simp
  rw [h₄, h₅]
  refine reshape36 _ _ (fun p c => ?_) _ _
  refine head36 _ _ _ _ _ (fun j => ?_) (fun p k => ?_) _ _ _ _ _ _ _ _ _ p c
  · exact zeros _ _ j
  · exact (h p k).trans (congrFun (pad0 _ _ Cert.ReferenceIdeal.Gen.pads_S1x512x50x50_S1x512x50x50_000_000_000_000 _) _).symm

/-- The scores per pixel and anchor. -/
theorem scores_eq (h : SameHidden V W)
    (h₆ : (V (Proc.devRef .tc main_arg6) : S18x512x1x1.Idx → EReal) = W (Proc.devRef .tc Cert.ReferenceIdeal.main_arg6))
    (h₇ : (V (Proc.devRef .tc main_arg7) : S18.Idx → EReal) = W (Proc.devRef .tc Cert.ReferenceIdeal.main_arg7)) :
    (after (hostOps0_4.take 15) V (Proc.devRef .tc main_v82) : S1x50x50x9x2.Idx → EReal)
      = afterL [Cert.ReferenceIdeal.Gen.hostOps0_7, Cert.ReferenceIdeal.Gen.hostOps0_8.take 11] W
          (Proc.devRef .tc Cert.ReferenceIdeal.main_v81) := by
  simp only [afterL_cons, afterL_nil, List.take_succ_cons, List.take_zero]
  after_results_simp
  rw [h₆, h₇]
  refine reshape18' _ _ (fun p c => ?_) _ _
  refine head18 _ _ _ _ _ (fun j => ?_) (fun p k => ?_) _ _ _ _ _ _ _ _ _ p c
  · exact zeros _ _ j
  · exact (h p k).trans (congrFun (pad0 _ _ Cert.ReferenceIdeal.Gen.pads_S1x512x50x50_S1x512x50x50_000_000_000_000 _) _).symm

/-- The scores in a list: the reference lays them out only later. -/
theorem score_list_eq (h : SameHidden V W)
    (h₆ : (V (Proc.devRef .tc main_arg6) : S18x512x1x1.Idx → EReal) = W (Proc.devRef .tc Cert.ReferenceIdeal.main_arg6))
    (h₇ : (V (Proc.devRef .tc main_arg7) : S18.Idx → EReal) = W (Proc.devRef .tc Cert.ReferenceIdeal.main_arg7)) :
    (after (hostOps0_4.take 15) V (Proc.devRef .tc main_v81) : S1x22500x2.Idx → EReal)
      = shapeCast S1x22500x2 (afterL [Cert.ReferenceIdeal.Gen.hostOps0_7, Cert.ReferenceIdeal.Gen.hostOps0_8.take 11] W
          (Proc.devRef .tc Cert.ReferenceIdeal.main_v80) : Cert.ReferenceIdeal.S1x50x50x18.Idx → EReal)
        Cert.ReferenceIdeal.Gen.shapeCasts_S1x50x50x18_S1x22500x2 := by
  simp only [afterL_cons, afterL_nil, List.take_succ_cons, List.take_zero]
  after_results_simp
  rw [h₆, h₇]
  refine reshape18 _ _ (fun p c => ?_) _ _
  refine head18 _ _ _ _ _ (fun j => ?_) (fun p k => ?_) _ _ _ _ _ _ _ _ _ p c
  · exact zeros _ _ j
  · exact (h p k).trans (congrFun (pad0 _ _ Cert.ReferenceIdeal.Gen.pads_S1x512x50x50_S1x512x50x50_000_000_000_000 _) _).symm

end Cert.Conv

end
end
-- ==== Proof.Lock.lean ====
/- Two straight-line programs run side by side. Where both perform the same operations, one for one, up to the names of
   their buffers, agreement of the buffers they have in common is carried through. -/
module

public import Idealize.ShloMosaic.Lib.StableHlo
public import Idealize.ShloMosaic.Lib.StableHlo.Run
public import Idealize.ShloMosaic.Lib.StableHlo.RunLoop

@[expose] public section

noncomputable section

namespace Cert.Lock

open Idealize.ShloMosaic Idealize.ShloMosaic.StableHlo Idealize.SL.Sem

variable {τ τ' : Topo} {sig sig' : RefSig} {Val : EltTy → Type} {F : FTy → Type}

/-- A list of pairs of buffers, one of each program, whose contents are to be the same. -/
abbrev Pairs (sig sig' : RefSig) := List (Ref sig .tc × Ref sig' .tc)

/-- Each pair of `L` has the same contents in `V` and in `W`. -/
def Agree (L : Pairs sig sig') (V : Valuation τ sig Val) (W : Valuation τ' sig' Val) : Prop :=
  ∀ p ∈ L, HEq (V (Proc.devRef .tc p.1)) (W (Proc.devRef .tc p.2))

/-- From contents that agree on `L`, the operations `ops` and `ops'` lead to contents that agree on `L'`. -/
def Lock (L L' : Pairs sig sig') (ops : List (HloOp τ sig Val)) (ops' : List (HloOp τ' sig' Val)) : Prop :=
  ∀ V W, Agree L V W → Agree L' (after ops V) (after ops' W)

/-- The same for operations given in several lists. -/
def Locks (L L' : Pairs sig sig') (ops : List (List (HloOp τ sig (Elt F)))) (ops' : List (List (HloOp τ' sig' (Elt F)))) : Prop :=
  ∀ V W, Agree L V W → Agree L' (afterL ops V) (afterL ops' W)

/-- `b` and `b'` may be written together: no pair of `L` has one of them without the other. -/
def free (L : Pairs sig sig') (b : Ref sig .tc) (b' : Ref sig' .tc) : Bool :=
  L.all fun p => decide (p.1 = b) == decide (p.2 = b')

/-- `a` and `a'` are a pair of `L`. -/
def has (L : Pairs sig sig') (a : Ref sig .tc) (a' : Ref sig' .tc) : Bool :=
  L.any fun p => decide (p.1 = a) && decide (p.2 = a')

/-- Every pair of `L'` is a pair of `L`. -/
def sub (L L' : Pairs sig sig') : Bool := L'.all fun p => has L p.1 p.2

/-- The buffers of a pair hold the same. -/
theorem Agree.has {L : Pairs sig sig'} {V : Valuation τ sig Val} {W : Valuation τ' sig' Val} (h : Agree L V W)
    {a : Ref sig .tc} {a' : Ref sig' .tc} (ha : has L a a' = true) : HEq (V (Proc.devRef .tc a)) (W (Proc.devRef .tc a')) := by
  obtain ⟨p, hp, e⟩ := List.any_eq_true.mp ha
  obtain ⟨e₁, e₂⟩ := Bool.and_eq_true_iff.mp e
  rw [← of_decide_eq_true e₁, ← of_decide_eq_true e₂]
  exact h p hp

/-- Agreement on more pairs is agreement on fewer. -/
theorem Agree.sub {L L' : Pairs sig sig'} {V : Valuation τ sig Val} {W : Valuation τ' sig' Val} (h : Agree L V W)
    (hs : sub L L' = true) : Agree L' V W :=
  fun p hp => h.has (List.all_eq_true.mp hs p hp)

/-- Agreement on one pair more. -/
theorem Agree.cons {L : Pairs sig sig'} {V : Valuation τ sig Val} {W : Valuation τ' sig' Val} {a : Ref sig .tc} {a' : Ref sig' .tc}
    (ha : HEq (V (Proc.devRef .tc a)) (W (Proc.devRef .tc a'))) (h : Agree L V W) : Agree ((a, a') :: L) V W := by
  intro p hp
  rcases List.mem_cons.mp hp with rfl | hp
  · exact ha
  · exact h p hp

/-- One operation on each side: if the results are the same and every other buffer keeps its contents, agreement
    extends to the two result buffers. -/
theorem Agree.step {L : Pairs sig sig'} {V : Valuation τ sig Val} {W : Valuation τ' sig' Val} (h : Agree L V W)
    {op : HloOp τ sig Val} {op' : HloOp τ' sig' Val} {b : Ref sig .tc} {b' : Ref sig' .tc}
    (hb : HEq (op.result V (Proc.devRef .tc b)) (op'.result W (Proc.devRef .tc b')))
    (hw : ∀ r : Ref sig .tc, r ≠ b → op.result V (Proc.devRef .tc r) = V (Proc.devRef .tc r))
    (hw' : ∀ r : Ref sig' .tc, r ≠ b' → op'.result W (Proc.devRef .tc r) = W (Proc.devRef .tc r))
    (hf : free L b b' = true) : Agree ((b, b') :: L) (op.result V) (op'.result W) := by
  refine Agree.cons hb fun p hp => ?_
  have e := beq_iff_eq.mp (List.all_eq_true.mp hf p hp)
  by_cases h₁ : p.1 = b
  · have h₂ : p.2 = b' := of_decide_eq_true (by rw [← e]; exact decide_eq_true h₁)
    rw [h₁, h₂]; exact hb
  · have h₂ : p.2 ≠ b' := of_decide_eq_false (by rw [← e]; exact decide_eq_false h₁)
    rw [hw _ h₁, hw' _ h₂]; exact h p hp

/-- The same function of the same argument. -/
theorem app₁ {A A' B B' : Type} (hA : A = A') (hB : B = B') {f : A → B} {f' : A' → B'} (hf : HEq f f') {x : A} {x' : A'}
    (hx : HEq x x') : HEq (f x) (f' x') := by
  subst hA; subst hB; cases hf; cases hx; rfl

/-- The same function of the same two arguments. -/
theorem app₂ {A A' B B' C C' : Type} (hA : A = A') (hB : B = B') (hC : C = C') {f : A → B → C} {f' : A' → B' → C'}
    (hf : HEq f f') {x : A} {x' : A'} (hx : HEq x x') {y : B} {y' : B'} (hy : HEq y y') : HEq (f x y) (f' x' y') := by
  subst hA; subst hB; subst hC; cases hf; cases hx; cases hy; rfl

/-- The same function of the same three arguments. -/
theorem app₃ {A A' B B' C C' D D' : Type} (hA : A = A') (hB : B = B') (hC : C = C') (hD : D = D') {f : A → B → C → D}
    {f' : A' → B' → C' → D'} (hf : HEq f f') {x : A} {x' : A'} (hx : HEq x x') {y : B} {y' : B'} (hy : HEq y y') {z : C} {z' : C'}
    (hz : HEq z z') : HEq (f x y z) (f' x' y' z') := by
  subst hA; subst hB; subst hC; subst hD; cases hf; cases hx; cases hy; cases hz; rfl

variable {L L' M : Pairs sig sig'} {ops : List (HloOp τ sig Val)} {ops' : List (HloOp τ' sig' Val)}

/-- No operations on either side. -/
theorem Lock.done : Lock L L ([] : List (HloOp τ sig Val)) ([] : List (HloOp τ' sig' Val)) := fun _ _ h => h

/-- No lists of operations on either side. -/
theorem Locks.done : Locks L L ([] : List (List (HloOp τ sig (Elt F)))) ([] : List (List (HloOp τ' sig' (Elt F)))) := fun _ _ h => h

/-- A list of operations on each side, and then the others. -/
theorem Locks.cons {ops : List (HloOp τ sig (Elt F))} {ops' : List (HloOp τ' sig' (Elt F))}
    {rest : List (List (HloOp τ sig (Elt F)))} {rest' : List (List (HloOp τ' sig' (Elt F)))} (h : Lock L M ops ops')
    (hr : Locks M L' rest rest') : Locks L L' (ops :: rest) (ops' :: rest') := fun V W hV => hr _ _ (h V W hV)

/-- Pairs that are not needed any more are dropped. -/
theorem Lock.forget (h : Lock L M ops ops') (hs : sub M L' = true) : Lock L L' ops ops' := fun V W hV => (h V W hV).sub hs

/-- Pairs that are not needed any more are dropped after the last list. -/
theorem Locks.forget {ls : List (List (HloOp τ sig (Elt F)))} {ls' : List (List (HloOp τ' sig' (Elt F)))} (h : Locks L M ls ls')
    (hs : sub M L' = true) : Locks L L' ls ls' := fun V W hV => (h V W hV).sub hs

/-- Both sides store a constant. -/
theorem Lock.nullary {b : Ref sig .tc} {b' : Ref sig' .tc} {v : b.ty.Contents Val} {v' : b'.ty.Contents Val} {hy hy'}
    (hf : free L b b' = true) (hv : HEq v v') (h : Lock ((b, b') :: L) L' ops ops') :
    Lock L L' (nullary (τ := τ) b v hy :: ops) (nullary (τ := τ') b' v' hy' :: ops') := fun V W hV => by
  refine h _ _ (hV.step ?_ (fun r hr => by apply nullary_result_ne; exact hr) (fun r hr => by apply nullary_result_ne; exact hr) hf)
  rw [nullary_result, nullary_result]; exact hv

/-- Both sides apply one function to buffers that agree. -/
theorem Lock.unary {a b : Ref sig .tc} {a' b' : Ref sig' .tc} {f : a.ty.Contents Val → b.ty.Contents Val}
    {f' : a'.ty.Contents Val → b'.ty.Contents Val} {ha ha' hy hy'} (hm : has L a a' = true) (hf : free L b b' = true)
    (ta : a.ty.Contents Val = a'.ty.Contents Val) (tb : b.ty.Contents Val = b'.ty.Contents Val) (hv : HEq f f')
    (h : Lock ((b, b') :: L) L' ops ops') :
    Lock L L' (unary (τ := τ) a b f ha hy :: ops) (unary (τ := τ') a' b' f' ha' hy' :: ops') := fun V W hV => by
  refine h _ _ (hV.step ?_ (fun r hr => by apply unary_result_ne; exact hr) (fun r hr => by apply unary_result_ne; exact hr) hf)
  rw [unary_result, unary_result]; exact app₁ ta tb hv (hV.has hm)

/-- Both sides apply one function to two buffers that agree. -/
theorem Lock.binary {a c b : Ref sig .tc} {a' c' b' : Ref sig' .tc} {f : a.ty.Contents Val → c.ty.Contents Val → b.ty.Contents Val}
    {f' : a'.ty.Contents Val → c'.ty.Contents Val → b'.ty.Contents Val} {ha ha' hc hc' hy hy'}
    (hm : has L a a' = true) (hn : has L c c' = true) (hf : free L b b' = true)
    (ta : a.ty.Contents Val = a'.ty.Contents Val) (tc : c.ty.Contents Val = c'.ty.Contents Val)
    (tb : b.ty.Contents Val = b'.ty.Contents Val) (hv : HEq f f') (h : Lock ((b, b') :: L) L' ops ops') :
    Lock L L' (binary (τ := τ) a c b f ha hc hy :: ops) (binary (τ := τ') a' c' b' f' ha' hc' hy' :: ops') := fun V W hV => by
  refine h _ _ (hV.step ?_ (fun r hr => by apply binary_result_ne; exact hr) (fun r hr => by apply binary_result_ne; exact hr) hf)
  rw [binary_result, binary_result]; exact app₂ ta tc tb hv (hV.has hm) (hV.has hn)

/-- Both sides apply one function to three buffers that agree. -/
theorem Lock.ternary {a c d b : Ref sig .tc} {a' c' d' b' : Ref sig' .tc}
    {f : a.ty.Contents Val → c.ty.Contents Val → d.ty.Contents Val → b.ty.Contents Val}
    {f' : a'.ty.Contents Val → c'.ty.Contents Val → d'.ty.Contents Val → b'.ty.Contents Val} {ha ha' hc hc' hd hd' hy hy'}
    (hm : has L a a' = true) (hn : has L c c' = true) (ho : has L d d' = true) (hf : free L b b' = true)
    (ta : a.ty.Contents Val = a'.ty.Contents Val) (tc : c.ty.Contents Val = c'.ty.Contents Val)
    (td : d.ty.Contents Val = d'.ty.Contents Val)
    (tb : b.ty.Contents Val = b'.ty.Contents Val) (hv : HEq f f') (h : Lock ((b, b') :: L) L' ops ops') :
    Lock L L' (ternary (τ := τ) a c d b f ha hc hd hy :: ops) (ternary (τ := τ') a' c' d' b' f' ha' hc' hd' hy' :: ops') :=
  fun V W hV => by
  refine h _ _ (hV.step ?_ (fun r hr => by apply ternary_result_ne; exact hr) (fun r hr => by apply ternary_result_ne; exact hr) hf)
  rw [ternary_result, ternary_result]; exact app₃ ta tc td tb hv (hV.has hm) (hV.has hn) (hV.has ho)

/-- The same array laid out at the same shape. -/
theorem app_reshape {X X' Y Y' : BufTy} (hX : X = X') (hY : Y = Y') (he : X.elt = Y.elt) (he' : X'.elt = Y'.elt)
    (hn : X.shape.ShapeCasts Y.shape) (hn' : X'.shape.ShapeCasts Y'.shape) {x : X.Contents Val} {x' : X'.Contents Val} (hx : HEq x x') :
    HEq (fun i => he ▸ shapeCast Y.shape x hn i : Y.Contents Val) (fun i => he' ▸ shapeCast Y'.shape x' hn' i : Y'.Contents Val) := by
  subst hX; subst hY; cases hx; rfl

/-- Both sides lay out buffers that agree at one new shape. -/
theorem Lock.reshape {a b : Ref sig .tc} {a' b' : Ref sig' .tc} {he he' hn hn' ha ha' hy hy'} (hm : has L a a' = true)
    (hf : free L b b' = true) (ta : a.ty = a'.ty) (tb : b.ty = b'.ty) (h : Lock ((b, b') :: L) L' ops ops') :
    Lock L L' (reshape (τ := τ) (Val := Val) a b he hn ha hy :: ops) (reshape (τ := τ') (Val := Val) a' b' he' hn' ha' hy' :: ops') :=
  fun V W hV => by
  refine h _ _ (hV.step ?_ (fun r hr => by apply reshape_result_ne; exact hr) (fun r hr => by apply reshape_result_ne; exact hr) hf)
  rw [reshape_result, reshape_result]; exact app_reshape ta tb he he' hn hn' (hV.has hm)

/-- Both sides apply one function to a list of buffers that agree, one by one. -/
theorem Lock.nary {n : Nat} {xs : Fin n → Ref sig .tc} {xs' : Fin n → Ref sig' .tc} {b : Ref sig .tc} {b' : Ref sig' .tc}
    {f : ((k : Fin n) → (xs k).ty.Contents Val) → b.ty.Contents Val} {f' : ((k : Fin n) → (xs' k).ty.Contents Val) → b'.ty.Contents Val}
    {hx hx' hy hy'} (hm : ∀ k, has L (xs k) (xs' k) = true) (hf : free L b b' = true)
    (hv : ∀ u u', (∀ k, HEq (u k) (u' k)) → HEq (f u) (f' u'))
    (h : Lock ((b, b') :: L) L' ops ops') :
    Lock L L' (nary (τ := τ) xs b f hx hy :: ops) (nary (τ := τ') xs' b' f' hx' hy' :: ops') := fun V W hV => by
  refine h _ _ (hV.step ?_ (fun r hr => by apply nary_result_ne; exact hr) (fun r hr => by apply nary_result_ne; exact hr) hf)
  rw [nary_result, nary_result]; exact hv _ _ fun k => hV.has (hm k)

/-- Both sides apply one function to a buffer and to indices that agree. -/
theorem Lock.unaryIndexed {n : Nat} {T : BufTy} {ix : Fin n → Ref sig .tc} {ix' : Fin n → Ref sig' .tc} {a b : Ref sig .tc}
    {a' b' : Ref sig' .tc} {f : a.ty.Contents Val → (Fin n → T.Contents Val) → b.ty.Contents Val}
    {f' : a'.ty.Contents Val → (Fin n → T.Contents Val) → b'.ty.Contents Val} {hT hT' ha ha' hx hx' hy hy'}
    (hm : has L a a' = true) (hn : ∀ k, has L (ix k) (ix' k) = true) (hf : free L b b' = true)
    (ta : a.ty.Contents Val = a'.ty.Contents Val) (tb : b.ty.Contents Val = b'.ty.Contents Val) (hv : HEq f f')
    (h : Lock ((b, b') :: L) L' ops ops') :
    Lock L L' (unaryIndexed (τ := τ) a ix T b f hT ha hx hy :: ops) (unaryIndexed (τ := τ') a' ix' T b' f' hT' ha' hx' hy' :: ops') :=
  fun V W hV => by
  refine h _ _ (hV.step ?_ (fun r hr => by apply unaryIndexed_result_ne; exact hr)
    (fun r hr => by apply unaryIndexed_result_ne; exact hr) hf)
  rw [unaryIndexed_result, unaryIndexed_result]
  refine app₂ ta rfl tb hv (hV.has hm) (heq_of_eq (funext fun k => eq_of_heq ?_))
  exact (cast_heq _ _).trans ((hV.has (hn k)).trans (cast_heq _ _).symm)

/-- A loop's trips: agreement that one trip keeps is kept by any number of trips. -/
theorem atTrip_agree {nD nD' : Nat} {L : Pairs sig sig'} {condOps : List (HloOp τ sig (Elt F))}
    {condOps' : List (HloOp τ' sig' (Elt F))} {bodyI : List (List (HloOp τ sig (Elt F)))} {bodyI' : List (List (HloOp τ' sig' (Elt F)))}
    (hc : Lock L L condOps condOps') (hb : Locks L L bodyI bodyI') (W₀ : Dev nD → Valuation τ sig (Elt F))
    (W₀' : Dev nD' → Valuation τ' sig' (Elt F)) (c : Dev nD) (c' : Dev nD') (h : Agree L (W₀ c) (W₀' c')) :
    ∀ k, Agree L (atTrip condOps bodyI W₀ k c) (atTrip condOps' bodyI' W₀' k c')
  | 0 => h
  | k + 1 => hb _ _ (hc _ _ (atTrip_agree hc hb W₀ W₀' c c' h k))

end Cert.Lock

end
end
-- ==== Proof.Tail.lean ====
/- The part of the two programs that comes after the heads: anchors decoded into boxes, boxes sorted by score, the loop of
   non-maximum suppression, the surviving boxes gathered. Both programs perform the same operations there, so what agrees
   before agrees after. -/
module

public import proofs.«01_k».proof.Proof.Lock
public import proofs.«01_k».proof.Proof.Gen.KernelIdeal.Frame
public import proofs.«01_k».proof.Proof.Gen.ReferenceIdeal.Run

@[expose] public section

set_option maxRecDepth 16384

noncomputable section

namespace Cert.Tail

open Idealize.ShloMosaic Idealize.ShloMosaic.StableHlo Idealize.SL.Sem
open Cert.Lock Cert.KernelIdeal Cert.KernelIdeal.Gen

variable {F : FTy → Type} [FloatOps F]

/-- Four equal columns are joined to the same boxes. -/
theorem four {u₀ u₁ u₂ u₃ v₀ v₁ v₂ v₃ : S22500x1.Idx → F .f32} (h₀ : u₀ = v₀) (h₁ : u₁ = v₁) (h₂ : u₂ = v₂) (h₃ : u₃ = v₃) :
    concatenate S22500x4 1 [⟨S22500x1, u₀⟩, ⟨S22500x1, u₁⟩, ⟨S22500x1, u₂⟩, ⟨S22500x1, u₃⟩]
        concatenates_S22500x1_S22500x1_S22500x1_S22500x1_S22500x4_d1
      = concatenate S22500x4 1 [⟨S22500x1, v₀⟩, ⟨S22500x1, v₁⟩, ⟨S22500x1, v₂⟩, ⟨S22500x1, v₃⟩]
        concatenates_S22500x1_S22500x1_S22500x1_S22500x1_S22500x4_d1 := by
  rw [h₀, h₁, h₂, h₃]

/-- Before the anchors are decoded: the image size, the foreground scores and the three results that are ready. -/
abbrev atEntry : Pairs sig Cert.ReferenceIdeal.sig :=
  [(main_arg1, Cert.ReferenceIdeal.main_arg1), (main_v97, Cert.ReferenceIdeal.main_v95), (main_cst, Cert.ReferenceIdeal.main_cst), (main_v80, Cert.ReferenceIdeal.main_v70), (main_v81, Cert.ReferenceIdeal.main_v96)]

/-- Before the columns of the boxes are joined. -/
abbrev atCols : Pairs sig Cert.ReferenceIdeal.sig :=
  [(main_v105, Cert.ReferenceIdeal.main_v104), (main_v161, Cert.ReferenceIdeal.main_v160), (main_v164, Cert.ReferenceIdeal.main_v163), (main_v167, Cert.ReferenceIdeal.main_v166), (main_v170, Cert.ReferenceIdeal.main_v169), (main_cst, Cert.ReferenceIdeal.main_cst), (main_v80, Cert.ReferenceIdeal.main_v70), (main_v81, Cert.ReferenceIdeal.main_v96)]

/-- Once it is known which boxes are large enough. -/
abbrev atBoxes : Pairs sig Cert.ReferenceIdeal.sig :=
  [(main_cst_35, Cert.ReferenceIdeal.main_cst_20), (main_v105, Cert.ReferenceIdeal.main_v104), (main_v175, Cert.ReferenceIdeal.main_v174), (main_v182, Cert.ReferenceIdeal.main_v181), (main_cst, Cert.ReferenceIdeal.main_cst), (main_v80, Cert.ReferenceIdeal.main_v70), (main_v81, Cert.ReferenceIdeal.main_v96)]

/-- Before the loop and after each of its trips. -/
abbrev atLoop : Pairs sig Cert.ReferenceIdeal.sig :=
  [(main_v193, Cert.ReferenceIdeal.main_v192), (main_v216_0, Cert.ReferenceIdeal.main_v215_0), (main_v216_1, Cert.ReferenceIdeal.main_v215_1), (main_v216_2, Cert.ReferenceIdeal.main_v215_2), (main_v216_3, Cert.ReferenceIdeal.main_v215_3), (main_v216_4, Cert.ReferenceIdeal.main_v215_4), (main_v216_5, Cert.ReferenceIdeal.main_v215_5), (main_cst, Cert.ReferenceIdeal.main_cst), (main_v80, Cert.ReferenceIdeal.main_v70), (main_v81, Cert.ReferenceIdeal.main_v96)]

/-- Where the trip's overlaps have been computed. -/
abbrev atBody : Pairs sig Cert.ReferenceIdeal.sig :=
  [(main_v193, Cert.ReferenceIdeal.main_v192), (main_v216_0, Cert.ReferenceIdeal.main_v215_0), (main_v216_1, Cert.ReferenceIdeal.main_v215_1), (main_v216_2, Cert.ReferenceIdeal.main_v215_2), (main_v216_3, Cert.ReferenceIdeal.main_v215_3), (main_v216_4, Cert.ReferenceIdeal.main_v215_4), (main_v216_5, Cert.ReferenceIdeal.main_v215_5), (main_cst, Cert.ReferenceIdeal.main_cst), (main_v80, Cert.ReferenceIdeal.main_v70), (main_v81, Cert.ReferenceIdeal.main_v96), (main_while0b_cst_88, Cert.ReferenceIdeal.main_while0b_cst_73), (main_while0b_v246, Cert.ReferenceIdeal.main_while0b_v245), (main_while0b_v272, Cert.ReferenceIdeal.main_while0b_v271), (main_while0b_v298, Cert.ReferenceIdeal.main_while0b_v297), (main_while0b_v299, Cert.ReferenceIdeal.main_while0b_v298)]

/-- Three results that are not written any more. -/
abbrev kept : Pairs sig Cert.ReferenceIdeal.sig :=
  [(main_cst, Cert.ReferenceIdeal.main_cst), (main_v80, Cert.ReferenceIdeal.main_v70), (main_v81, Cert.ReferenceIdeal.main_v96)]

/-- The five results. -/
abbrev atEnd : Pairs sig Cert.ReferenceIdeal.sig :=
  [(main_v244, Cert.ReferenceIdeal.main_v243), (main_v245, Cert.ReferenceIdeal.main_v244), (main_cst, Cert.ReferenceIdeal.main_cst), (main_v80, Cert.ReferenceIdeal.main_v70), (main_v81, Cert.ReferenceIdeal.main_v96)]

end Cert.Tail
-- ==== Proof.Softmax.lean ====
/- The softmax of the scores: both programs perform the same operations on the same scores. -/
module

public import proofs.«01_k».proof.Proof.Tail

@[expose] public section

set_option maxRecDepth 16384

noncomputable section

namespace Cert.Tail

open Idealize.ShloMosaic Idealize.ShloMosaic.StableHlo Idealize.SL.Sem
open Cert.Lock Cert.KernelIdeal Cert.KernelIdeal.Gen

variable {F : FTy → Type} [FloatOps F]

/-- Before the softmax: the image size, the scores per pixel and anchor, the anchors and the locations. -/
abbrev atScores : Pairs sig Cert.ReferenceIdeal.sig :=
  [(main_arg1, Cert.ReferenceIdeal.main_arg1), (main_v82, Cert.ReferenceIdeal.main_v81), (main_cst, Cert.ReferenceIdeal.main_cst), (main_v80, Cert.ReferenceIdeal.main_v70)]

/-- After the softmax: the foreground scores instead of the scores. -/
abbrev atSoftmax : Pairs sig Cert.ReferenceIdeal.sig :=
  [(main_arg1, Cert.ReferenceIdeal.main_arg1), (main_v96, Cert.ReferenceIdeal.main_v95), (main_cst, Cert.ReferenceIdeal.main_cst), (main_v80, Cert.ReferenceIdeal.main_v70)]

/-- The softmax carries the agreement on. -/
theorem softmax_lock : Lock atScores atSoftmax ((hostOps0_4 (F := F)).drop 15) (((Cert.ReferenceIdeal.Gen.hostOps0_8 (F := F)).drop 11).take 17) := by
  simp only [List.drop_succ_cons, List.drop_zero, List.take_succ_cons, List.take_zero]
  refine Lock.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

end Cert.Tail

end
end
-- ==== Proof.Start.lean ====
/- The part of the two programs before the boxes: hidden layer, heads, softmax. From arguments that agree, both programs reach
   the same anchors, locations, scores and foreground scores. -/
module

public import proofs.«01_k».proof.Proof.Keep
public import proofs.«01_k».proof.Proof.Hidden
public import proofs.«01_k».proof.Proof.Heads
public import proofs.«01_k».proof.Proof.Softmax

@[expose] public section

set_option maxRecDepth 16384

noncomputable section

namespace Cert.Start

open Idealize.ShloMosaic Idealize.ShloMosaic.StableHlo Idealize.SL.Sem
open Cert.Lock Cert.Keep Cert.Conv Cert.Tail Cert.KernelIdeal Cert.KernelIdeal.Gen

/-- The arguments. -/
abbrev atLaunch : Pairs sig Cert.ReferenceIdeal.sig :=
  [(main_arg0, Cert.ReferenceIdeal.main_arg0), (main_arg1, Cert.ReferenceIdeal.main_arg1), (main_arg2, Cert.ReferenceIdeal.main_arg2),
    (main_arg3, Cert.ReferenceIdeal.main_arg3), (main_arg4, Cert.ReferenceIdeal.main_arg4), (main_arg5, Cert.ReferenceIdeal.main_arg5),
    (main_arg6, Cert.ReferenceIdeal.main_arg6), (main_arg7, Cert.ReferenceIdeal.main_arg7)]

/-- Both programs hold the same table of anchors. -/
theorem anchors_eq : Cert.KernelIdeal.lit0 = Cert.ReferenceIdeal.lit0 := rfl

variable (V : Valuation τ sig (Elt Ideal)) (W : Valuation Cert.ReferenceIdeal.τ Cert.ReferenceIdeal.sig (Elt Ideal))

/-- The kernel after the hidden layer. -/
abbrev kHidden : Valuation τ sig (Elt Ideal) := afterL [hostOps0, hostOps0_1, hostOps0_2, hostOps0_3] V
/-- The kernel after the heads. -/
abbrev kHeads : Valuation τ sig (Elt Ideal) := after (hostOps0_4.take 15) (kHidden V)
/-- The reference after the hidden layer. -/
abbrev rHidden : Valuation Cert.ReferenceIdeal.τ Cert.ReferenceIdeal.sig (Elt Ideal) :=
  afterL [Cert.ReferenceIdeal.Gen.hostOps0, Cert.ReferenceIdeal.Gen.hostOps0_1, Cert.ReferenceIdeal.Gen.hostOps0_2, Cert.ReferenceIdeal.Gen.hostOps0_3] W
/-- The reference after the locations. -/
abbrev rLocs : Valuation Cert.ReferenceIdeal.τ Cert.ReferenceIdeal.sig (Elt Ideal) :=
  afterL [Cert.ReferenceIdeal.Gen.hostOps0_4, Cert.ReferenceIdeal.Gen.hostOps0_5, Cert.ReferenceIdeal.Gen.hostOps0_6] (rHidden W)
/-- The reference after both heads. -/
abbrev rHeads : Valuation Cert.ReferenceIdeal.τ Cert.ReferenceIdeal.sig (Elt Ideal) :=
  afterL [Cert.ReferenceIdeal.Gen.hostOps0_7, Cert.ReferenceIdeal.Gen.hostOps0_8.take 11] (rLocs W)

/-- Buffers that the hidden layer of the kernel does not write. -/
theorem kHidden_keeps (r : Ref sig .tc) (h : r ∉ hostOps0_W ∧ r ∉ hostOps0_1_W ∧ r ∉ hostOps0_2_W ∧ r ∉ hostOps0_3_W) :
    kHidden V (Proc.devRef .tc r) = V (Proc.devRef .tc r) := by
  refine keepsL ?_ V
  simp only [List.forall_mem_cons]
  exact ⟨keeps hostOps0_writes h.1, keeps hostOps0_1_writes h.2.1, keeps hostOps0_2_writes h.2.2.1, keeps hostOps0_3_writes h.2.2.2,
    fun _ h => nomatch h⟩

/-- Buffers that the hidden layer of the reference does not write. -/
theorem rHidden_keeps (r : Ref Cert.ReferenceIdeal.sig .tc) (h : r ∉ Cert.ReferenceIdeal.Value.hostOps0_W ∧ r ∉ Cert.ReferenceIdeal.Value.hostOps0_1_W ∧ r ∉ Cert.ReferenceIdeal.Value.hostOps0_2_W ∧ r ∉ Cert.ReferenceIdeal.Value.hostOps0_3_W) :
    rHidden W (Proc.devRef .tc r) = W (Proc.devRef .tc r) := by
  refine keepsL ?_ W
  simp only [List.forall_mem_cons]
  exact ⟨keeps Cert.ReferenceIdeal.Value.hostOps0_writes h.1, keeps Cert.ReferenceIdeal.Value.hostOps0_1_writes h.2.1, keeps Cert.ReferenceIdeal.Value.hostOps0_2_writes h.2.2.1, keeps Cert.ReferenceIdeal.Value.hostOps0_3_writes h.2.2.2,
    fun _ h => nomatch h⟩

/-- Buffers that the locations of the reference do not write. -/
theorem rLocs_keeps (r : Ref Cert.ReferenceIdeal.sig .tc) (h : r ∉ Cert.ReferenceIdeal.Value.hostOps0_4_W ∧ r ∉ Cert.ReferenceIdeal.Value.hostOps0_5_W ∧ r ∉ Cert.ReferenceIdeal.Value.hostOps0_6_W) :
    rLocs W (Proc.devRef .tc r) = rHidden W (Proc.devRef .tc r) := by
  refine keepsL ?_ _
  simp only [List.forall_mem_cons]
  exact ⟨keeps Cert.ReferenceIdeal.Value.hostOps0_4_writes h.1, keeps Cert.ReferenceIdeal.Value.hostOps0_5_writes h.2.1, keeps Cert.ReferenceIdeal.Value.hostOps0_6_writes h.2.2,
    fun _ h => nomatch h⟩

/-- Buffers that the scores of the reference do not write. -/
theorem rHeads_keeps (r : Ref Cert.ReferenceIdeal.sig .tc) (h : r ∉ Cert.ReferenceIdeal.Value.hostOps0_7_W ∧ r ∉ Cert.ReferenceIdeal.Value.hostOps0_8_W) :
    rHeads W (Proc.devRef .tc r) = rLocs W (Proc.devRef .tc r) := by
  refine keepsL ?_ _
  simp only [List.forall_mem_cons]
  exact ⟨keeps Cert.ReferenceIdeal.Value.hostOps0_7_writes h.1, keeps_take 11 Cert.ReferenceIdeal.Value.hostOps0_8_writes h.2,
    fun _ h => nomatch h⟩

/-- The hidden layers are the same. -/
theorem same_hidden (h : Agree atLaunch V W) : SameHidden (kHidden V) (rHidden W) := by
  intro p k
  have h₀ := h.has (a := main_arg0) (a' := Cert.ReferenceIdeal.main_arg0) (by decide +kernel)
  have h₂ := h.has (a := main_arg2) (a' := Cert.ReferenceIdeal.main_arg2) (by decide +kernel)
  have h₃ := h.has (a := main_arg3) (a' := Cert.ReferenceIdeal.main_arg3) (by decide +kernel)
  have e₀ : (V (Proc.devRef .tc main_arg0) : S1x512x50x50.Idx → EReal) = W (Proc.devRef .tc Cert.ReferenceIdeal.main_arg0) := eq_of_heq h₀
  have e₂ : (V (Proc.devRef .tc main_arg2) : S512x512x3x3.Idx → EReal) = W (Proc.devRef .tc Cert.ReferenceIdeal.main_arg2) := eq_of_heq h₂
  have e₃ : (V (Proc.devRef .tc main_arg3) : S512.Idx → EReal) = W (Proc.devRef .tc Cert.ReferenceIdeal.main_arg3) := eq_of_heq h₃
  have hk := kernel_hidden V p k
  rw [e₀, e₂, e₃] at hk
  exact hk.trans (reference_hidden W k _ _).symm

/-- An argument of the heads that agrees at launch agrees after the hidden layer. -/
theorem hidden_agree (h : Agree atLaunch V W) : Agree (atLaunch.drop 4) (kHidden V) (rHidden W) := by
  intro p hp
  have hk : ∀ p ∈ (atLaunch.drop 4), p.1 ∈ argRefs := ListAll.forall_mem_of_all_decide (by decide +kernel)
  have hr₀ : ∀ p ∈ (atLaunch.drop 4), p.2 ∉ Cert.ReferenceIdeal.Value.hostOps0_W := ListAll.forall_mem_of_all_decide (by decide +kernel)
  have hr₁ : ∀ p ∈ (atLaunch.drop 4), p.2 ∉ Cert.ReferenceIdeal.Value.hostOps0_1_W := ListAll.forall_mem_of_all_decide (by decide +kernel)
  have hr₂ : ∀ p ∈ (atLaunch.drop 4), p.2 ∉ Cert.ReferenceIdeal.Value.hostOps0_2_W := ListAll.forall_mem_of_all_decide (by decide +kernel)
  have hr₃ : ∀ p ∈ (atLaunch.drop 4), p.2 ∉ Cert.ReferenceIdeal.Value.hostOps0_3_W := ListAll.forall_mem_of_all_decide (by decide +kernel)
  have ha := hk p hp
  exact (heq_of_eq (kHidden_keeps V p.1 ⟨hostOps0_args _ ha, hostOps0_1_args _ ha, hostOps0_2_args _ ha, hostOps0_3_args _ ha⟩)).trans
    ((h p (List.mem_of_mem_drop hp)).trans (heq_of_eq (rHidden_keeps W p.2 ⟨hr₀ p hp, hr₁ p hp, hr₂ p hp, hr₃ p hp⟩).symm))

/-- The locations are the same. -/
theorem locs_agree (h : Agree atLaunch V W) :
    (kHeads V (Proc.devRef .tc main_v80) : S1x22500x4.Idx → EReal) = rHeads W (Proc.devRef .tc Cert.ReferenceIdeal.main_v70) := by
  have a := hidden_agree V W h
  have h₄ := a.has (a := main_arg4) (a' := Cert.ReferenceIdeal.main_arg4) (by decide +kernel)
  have h₅ := a.has (a := main_arg5) (a' := Cert.ReferenceIdeal.main_arg5) (by decide +kernel)
  rw [rHeads_keeps W Cert.ReferenceIdeal.main_v70 ⟨by decide +kernel, by decide +kernel⟩]
  exact locs_eq (kHidden V) (rHidden W) (same_hidden V W h) (eq_of_heq h₄) (eq_of_heq h₅)

/-- The reference's hidden layer and its weights of the scores are still there after the locations. -/
theorem locs_keep (h : Agree atLaunch V W) : SameHidden (kHidden V) (rLocs W)
    ∧ (kHidden V (Proc.devRef .tc main_arg6) : S18x512x1x1.Idx → EReal) = rLocs W (Proc.devRef .tc Cert.ReferenceIdeal.main_arg6)
    ∧ (kHidden V (Proc.devRef .tc main_arg7) : S18.Idx → EReal) = rLocs W (Proc.devRef .tc Cert.ReferenceIdeal.main_arg7) := by
  have a := hidden_agree V W h
  have h₆ := a.has (a := main_arg6) (a' := Cert.ReferenceIdeal.main_arg6) (by decide +kernel)
  have h₇ := a.has (a := main_arg7) (a' := Cert.ReferenceIdeal.main_arg7) (by decide +kernel)
  refine ⟨fun p k => ?_, ?_, ?_⟩
  · rw [rLocs_keeps W Cert.ReferenceIdeal.main_v59 ⟨by decide +kernel, by decide +kernel, by decide +kernel⟩]
    exact same_hidden V W h p k
  · rw [rLocs_keeps W Cert.ReferenceIdeal.main_arg6 ⟨by decide +kernel, by decide +kernel, by decide +kernel⟩]
    exact eq_of_heq h₆
  · rw [rLocs_keeps W Cert.ReferenceIdeal.main_arg7 ⟨by decide +kernel, by decide +kernel, by decide +kernel⟩]
    exact eq_of_heq h₇

/-- The anchors are the same, and the image size is still there. -/
theorem anchors_agree : (kHeads V (Proc.devRef .tc main_cst) : S22500x4.Idx → EReal) = rHeads W (Proc.devRef .tc Cert.ReferenceIdeal.main_cst) := by
  have k : kHeads V (Proc.devRef .tc main_cst) = after hostOps0 V (Proc.devRef .tc main_cst) := by
    refine (keeps_take (r := main_cst) 15 hostOps0_4_writes (by decide +kernel) _).trans ?_
    exact (keeps (r := main_cst) hostOps0_3_writes (by decide +kernel) _).trans
      ((keeps (r := main_cst) hostOps0_2_writes (by decide +kernel) _).trans
        (keeps (r := main_cst) hostOps0_1_writes (by decide +kernel) (after hostOps0 V)))
  have r : rHeads W (Proc.devRef .tc Cert.ReferenceIdeal.main_cst) = after Cert.ReferenceIdeal.Gen.hostOps0 W (Proc.devRef .tc Cert.ReferenceIdeal.main_cst) := by
    rw [rHeads_keeps W Cert.ReferenceIdeal.main_cst ⟨by decide +kernel, by decide +kernel⟩,
      rLocs_keeps W Cert.ReferenceIdeal.main_cst ⟨by decide +kernel, by decide +kernel, by decide +kernel⟩]
    exact (keeps (r := Cert.ReferenceIdeal.main_cst) Cert.ReferenceIdeal.Value.hostOps0_3_writes (by decide +kernel) _).trans
        ((keeps (r := Cert.ReferenceIdeal.main_cst) Cert.ReferenceIdeal.Value.hostOps0_2_writes (by decide +kernel) _).trans
          (keeps (r := Cert.ReferenceIdeal.main_cst) Cert.ReferenceIdeal.Value.hostOps0_1_writes (by decide +kernel) (after Cert.ReferenceIdeal.Gen.hostOps0 W)))
  rw [k, r]
  after_results_simp
  rw [anchors_eq]
  rfl

/-- Before the softmax the programs agree. -/
theorem scores_agree (h : Agree atLaunch V W) : Agree atScores (kHeads V) (rHeads W) := by
  have h₁ := h.has (a := main_arg1) (a' := Cert.ReferenceIdeal.main_arg1) (by decide +kernel)
  have k₁ : kHeads V (Proc.devRef .tc main_arg1) = V (Proc.devRef .tc main_arg1) :=
    (keeps_take (r := main_arg1) 15 hostOps0_4_writes (by decide +kernel) _).trans
      (kHidden_keeps V main_arg1 ⟨by decide +kernel, by decide +kernel, by decide +kernel, by decide +kernel⟩)
  have r₁ : rHeads W (Proc.devRef .tc Cert.ReferenceIdeal.main_arg1) = W (Proc.devRef .tc Cert.ReferenceIdeal.main_arg1) := by
    rw [rHeads_keeps W Cert.ReferenceIdeal.main_arg1 ⟨by decide +kernel, by decide +kernel⟩,
      rLocs_keeps W Cert.ReferenceIdeal.main_arg1 ⟨by decide +kernel, by decide +kernel, by decide +kernel⟩,
      rHidden_keeps W Cert.ReferenceIdeal.main_arg1 ⟨by decide +kernel, by decide +kernel, by decide +kernel, by decide +kernel⟩]
  obtain ⟨hh, h₆, h₇⟩ := locs_keep V W h
  have hs := scores_eq (kHidden V) (rLocs W) hh h₆ h₇
  have none : Agree ([] : Pairs sig Cert.ReferenceIdeal.sig) (kHeads V) (rHeads W) := fun p hp => nomatch hp
  exact Agree.cons ((heq_of_eq k₁).trans (h₁.trans (heq_of_eq r₁.symm))) (Agree.cons (heq_of_eq hs)
    (Agree.cons (heq_of_eq (anchors_agree V W)) (Agree.cons (heq_of_eq (locs_agree V W h)) none)))

/-- The list of the scores is, in the kernel, what the reference lays out later. -/
theorem score_list (h : Agree atLaunch V W) :
    (kHeads V (Proc.devRef .tc main_v81) : S1x22500x2.Idx → EReal)
      = shapeCast S1x22500x2 (rHeads W (Proc.devRef .tc Cert.ReferenceIdeal.main_v80) : Cert.ReferenceIdeal.S1x50x50x18.Idx → EReal)
        Cert.ReferenceIdeal.Gen.shapeCasts_S1x50x50x18_S1x22500x2 := by
  obtain ⟨hh, h₆, h₇⟩ := locs_keep V W h
  exact score_list_eq (kHidden V) (rLocs W) hh h₆ h₇

/-- The reference after the softmax. -/
abbrev rSoftmax : Valuation Cert.ReferenceIdeal.τ Cert.ReferenceIdeal.sig (Elt Ideal) :=
  after ((Cert.ReferenceIdeal.Gen.hostOps0_8.drop 11).take 17) (rHeads W)

/-- The kernel's softmax leaves the scores as they are. -/
theorem kernel_softmax_scores (X : Valuation τ sig (Elt Ideal)) :
    after (hostOps0_4.drop 15) X (Proc.devRef .tc main_v81) = X (Proc.devRef .tc main_v81) := by
  simp only [List.drop_succ_cons, List.drop_zero]
  after_results_simp

/-- The reference's softmax leaves the scores as they are. -/
theorem reference_softmax_scores (Y : Valuation Cert.ReferenceIdeal.τ Cert.ReferenceIdeal.sig (Elt Ideal)) :
    after ((Cert.ReferenceIdeal.Gen.hostOps0_8.drop 11).take 17) Y (Proc.devRef .tc Cert.ReferenceIdeal.main_v80)
      = Y (Proc.devRef .tc Cert.ReferenceIdeal.main_v80) := by
  simp only [List.drop_succ_cons, List.drop_zero, List.take_succ_cons, List.take_zero]
  after_results_simp

/-- The reference's one operation that lays out the scores as a list. -/
theorem reference_list (Y : Valuation Cert.ReferenceIdeal.τ Cert.ReferenceIdeal.sig (Elt Ideal)) :
    (after ((Cert.ReferenceIdeal.Gen.hostOps0_8.drop 28).take 1) Y (Proc.devRef .tc Cert.ReferenceIdeal.main_v96) : S1x22500x2.Idx → EReal)
      = shapeCast S1x22500x2 (Y (Proc.devRef .tc Cert.ReferenceIdeal.main_v80) : Cert.ReferenceIdeal.S1x50x50x18.Idx → EReal)
        Cert.ReferenceIdeal.Gen.shapeCasts_S1x50x50x18_S1x22500x2 := by
  simp only [List.drop_succ_cons, List.drop_zero, List.take_succ_cons, List.take_zero]
  after_results_simp
  rfl

/-- Laying out the scores writes nothing else. -/
theorem reference_list_keeps (Y : Valuation Cert.ReferenceIdeal.τ Cert.ReferenceIdeal.sig (Elt Ideal)) (r : Ref Cert.ReferenceIdeal.sig .tc)
    (hr : r ≠ Cert.ReferenceIdeal.main_v96) :
    after ((Cert.ReferenceIdeal.Gen.hostOps0_8.drop 28).take 1) Y (Proc.devRef .tc r) = Y (Proc.devRef .tc r) := by
  simp only [List.drop_succ_cons, List.drop_zero, List.take_succ_cons, List.take_zero]
  exact reshape_result_ne _ _ _ _ _ _ _ hr

/-- Once the kernel has copied the foreground scores and the reference has laid out the scores, the programs agree on all that
    the boxes need. -/
theorem entry_agree (h : Agree atLaunch V W) (X : Valuation τ sig (Elt Ideal))
    (hx : X (Proc.devRef .tc main_v97) = after hostOps0_4 (kHidden V) (Proc.devRef .tc main_v96))
    (hX : ∀ r : Ref sig .tc, r ≠ main_v97 → X (Proc.devRef .tc r) = after hostOps0_4 (kHidden V) (Proc.devRef .tc r)) :
    Agree atEntry X (after ((Cert.ReferenceIdeal.Gen.hostOps0_8.drop 28).take 1) (rSoftmax W)) := by
  have a := softmax_lock _ _ (scores_agree V W h)
  have hk : after (hostOps0_4.drop 15) (kHeads V) = after hostOps0_4 (kHidden V) := by
    rw [← after_append, List.take_append_drop]
  rw [hk] at a
  have g₁ := a.has (a := main_arg1) (a' := Cert.ReferenceIdeal.main_arg1) (by decide +kernel)
  have g₂ := a.has (a := main_v96) (a' := Cert.ReferenceIdeal.main_v95) (by decide +kernel)
  have g₃ := a.has (a := main_cst) (a' := Cert.ReferenceIdeal.main_cst) (by decide +kernel)
  have g₄ := a.has (a := main_v80) (a' := Cert.ReferenceIdeal.main_v70) (by decide +kernel)
  have g₅ : (after hostOps0_4 (kHidden V) (Proc.devRef .tc main_v81) : S1x22500x2.Idx → EReal)
      = after ((Cert.ReferenceIdeal.Gen.hostOps0_8.drop 28).take 1) (rSoftmax W) (Proc.devRef .tc Cert.ReferenceIdeal.main_v96) := by
    rw [reference_list, show rSoftmax W (Proc.devRef .tc Cert.ReferenceIdeal.main_v80) = rHeads W (Proc.devRef .tc Cert.ReferenceIdeal.main_v80)
      from reference_softmax_scores _, ← hk]
    exact (kernel_softmax_scores _).trans (score_list V W h)
  have none : Agree ([] : Pairs sig Cert.ReferenceIdeal.sig) X (after ((Cert.ReferenceIdeal.Gen.hostOps0_8.drop 28).take 1) (rSoftmax W)) :=
    fun p hp => nomatch hp
  have keep := reference_list_keeps (rSoftmax W)
  exact Agree.cons ((heq_of_eq (hX _ (by decide +kernel))).trans (g₁.trans (heq_of_eq (keep _ (by decide +kernel)).symm)))
    (Agree.cons ((heq_of_eq hx).trans (g₂.trans (heq_of_eq (keep _ (by decide +kernel)).symm)))
    (Agree.cons ((heq_of_eq (hX _ (by decide +kernel))).trans (g₃.trans (heq_of_eq (keep _ (by decide +kernel)).symm)))
    (Agree.cons ((heq_of_eq (hX _ (by decide +kernel))).trans (g₄.trans (heq_of_eq (keep _ (by decide +kernel)).symm)))
    (Agree.cons ((heq_of_eq (hX _ (by decide +kernel))).trans (heq_of_eq g₅)) none))))

end Cert.Start

end
end
-- ==== Proof.Region.lean ====
/- The kernel's one block: it copies the foreground scores. -/
module

public import proofs.«01_k».proof.Proof.Gen.KernelIdeal.Frame
public import Idealize.ShloMosaic.Lib.Pipeline.ValueKit

@[expose] public section

set_option maxRecDepth 16384

noncomputable section

namespace Cert.Start

open Idealize.ShloMosaic Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-- The windows lie at the origin. -/
theorem origin : ∀ t : Fin cfg0.N, win0_0.index t = ![0, 0] ∧ win0_1.index t = ![0, 0] :=
  (by decide +kernel : ∀ t : Fin grid0.N, _)

/-- The block that is read is the whole array. -/
theorem block (V : (c : Dev nD) → (b : Ref sig .tc) → Buf (Elt F) ((c.tc : Thread nD τ).loc b)) (c : Dev nD) (t : Fin cfg0.N) :
    iblk0 V c 0 t = V c main_v96 := by
  blk_ext! [iblk0, origin t]

/-- The copy holds what was copied. -/
theorem copied (c : Dev nD) : W6 m ρ c (Proc.devRef .tc main_v97) = W5 m ρ c (Proc.devRef .tc main_v96) := by
  refine (W6_arr m ρ c 1).trans ?_
  refine (dat0 (V5 m ρ) c).arrAt_eq_of_after_last 1 t0_0 (by decide +kernel) _ fun j => ?_
  blk_simp
  rw [after0_1]
  frame_out
  rw [block]
  unfold k0_pay1
  rw [shapeCast_self]

/-- Every other buffer is left as it was. -/
theorem not_copied (c : Dev nD) (r : Ref sig .tc) (hr : r ≠ main_v97) : W6 m ρ c (Proc.devRef .tc r) = W5 m ρ c (Proc.devRef .tc r) :=
  W6_of m ρ c r fun w e => by
    match w with
    | ⟨0, _⟩ => rfl
    | ⟨1, _⟩ => exact absurd e.symm hr

end Cert.Start

end
end
-- ==== Proof.ReferenceArgs.lean ====
/- The reference writes none of its arguments. -/
module

public import proofs.«01_k».proof.Proof.Keep
public import proofs.«01_k».proof.Proof.Gen.ReferenceIdeal.Run
public import Idealize.ShloMosaic.Lib.Quiescent

@[expose] public section

set_option maxRecDepth 16384

noncomputable section

namespace Cert.Keep

open Idealize.ShloMosaic Idealize.ShloMosaic.StableHlo Idealize.SL.Sem
open Cert.ReferenceIdeal Cert.ReferenceIdeal.Gen Cert.ReferenceIdeal.Value

variable {F : FTy → Type} [FloatOps F]

/-- The arguments. -/
abbrev args : List (Ref sig .tc) := [main_arg0, main_arg1, main_arg2, main_arg3, main_arg4, main_arg5, main_arg6, main_arg7]

/-- A list of operations whose results are not arguments keeps the arguments. -/
theorem keeps_args {W : List (Ref sig .tc)} {ops : List (HloOp τ sig (Elt F))} (hw : Writes W ops)
    (ha : (args.all fun a => decide (a ∉ W)) = true) : ∀ a ∈ args, Keeps a ops := fun a h =>
  keeps hw (of_decide_eq_true (List.all_eq_true.mp ha a h))

/-- What comes before the loop keeps the arguments. -/
theorem pre_args : ∀ a ∈ args, ∀ ops ∈ preI (F := F), Keeps a ops := fun a h => by
  simp only [preI, List.forall_mem_cons]
  exact ⟨keeps_args hostOps0_writes (by decide +kernel) a h, keeps_args hostOps0_1_writes (by decide +kernel) a h,
    keeps_args hostOps0_2_writes (by decide +kernel) a h, keeps_args hostOps0_3_writes (by decide +kernel) a h,
    keeps_args hostOps0_4_writes (by decide +kernel) a h, keeps_args hostOps0_5_writes (by decide +kernel) a h,
    keeps_args hostOps0_6_writes (by decide +kernel) a h, keeps_args hostOps0_7_writes (by decide +kernel) a h,
    keeps_args hostOps0_8_writes (by decide +kernel) a h, keeps_args hostOps0_9_writes (by decide +kernel) a h,
    keeps_args hostOps0_10_writes (by decide +kernel) a h, keeps_args hostOps0_11_writes (by decide +kernel) a h,
    keeps_args hostOps0_12_writes (by decide +kernel) a h, keeps_args hostOps0_13_writes (by decide +kernel) a h,
    keeps_args hostOps0_14_writes (by decide +kernel) a h, keeps_args hostOps0_15_writes (by decide +kernel) a h,
    keeps_args hostOps0_16_writes (by decide +kernel) a h, keeps_args hostOps0_17_writes (by decide +kernel) a h,
    keeps_args hostOps0_18_writes (by decide +kernel) a h, keeps_args hostOps0_19_writes (by decide +kernel) a h,
    keeps_args hostOps0_20_writes (by decide +kernel) a h, fun _ h => nomatch h⟩

/-- The loop's body keeps the arguments. -/
theorem body_args : ∀ a ∈ args, ∀ ops ∈ bodyI (F := F), Keeps a ops := fun a h => by
  simp only [bodyI, List.forall_mem_cons]
  exact ⟨keeps_args while0Ops0_writes (by decide +kernel) a h,
    keeps_args while0Ops0_1_writes (by decide +kernel) a h, keeps_args while0Ops0_2_writes (by decide +kernel) a h,
    keeps_args while0Ops0_3_writes (by decide +kernel) a h, keeps_args while0Ops0_4_writes (by decide +kernel) a h, fun _ h => nomatch h⟩

/-- What the operations after the loop write, in order. -/
abbrev post_W : List (Ref sig .tc) :=
  [main_call12_v0, main_call12_call0_c, main_call12_call0_v0, main_v216, main_c_28, main_v217, main_c_29, main_v218, main_v219,
    main_c_30, main_v220, main_v221, main_v222, main_v223, main_c_31, main_v224, main_v225, main_call13_call0_c,
    main_call13_call0_v0, main_v226, main_c_32, main_call14_v0, main_call14_v1, main_call14_v2, main_call14_v3, main_call14_v4,
    main_call14_v5, main_call14_v6, main_call14_v7, main_call14_v8, main_call14_c, main_call14_v9, main_call14_v10,
    main_call14_v11, main_call14_c_0, main_call14_v12, main_call14_v13, main_v227, main_c_33, main_call15_v0, main_call15_c,
    main_call15_v1, main_call15_c_0, main_call15_v2, main_call15_v3, main_call15_v4, main_call15_c_1, main_call15_v5,
    main_call15_v6, main_call15_c_2, main_call15_v7, main_call15_v8, main_call15_c_3, main_call15_v9, main_call15_v10,
    main_call15_v11, main_call15_v12, main_call15_v13, main_call15_v14, main_v228, main_v229, main_c_34, main_v230, main_v231,
    main_v232, main_v233, main_v234, main_c_35, main_v235, main_call16_v0, main_v236, main_c_36, main_v237, main_v238,
    main_c_37, main_v239, main_v240, main_v241, main_v242, main_v243, main_c_38, main_v244]

/-- What comes after the loop writes only the buffers of this list. -/
theorem post_writes : Writes post_W (postI (F := F)).flatten := forall_writes_sub_of_map rfl

variable (m : (ℓ : Loc nD τ sig) → Buf (Elt F) ℓ) (ρ : Dev nD → PrngReg)

/-- What the reference leaves in its buffers. -/
abbrev refEnd (c : Dev nD) : Valuation τ sig (Elt F) := finalContents condOps preI bodyI postI 12000 m c

/-- An argument ends as it began. -/
theorem refEnd_args (a) (h : a ∈ args) (c : Dev nD) : refEnd m c (Proc.devRef .tc a) = m ((c.tc : Thread nD τ).loc a) :=
  (((congrFun (afterL_eq_after_flatten _ _) _).trans (keeps_args post_writes (by decide +kernel) a h _)).trans (keeps_args condOps_writes (by decide +kernel) a h _)).trans
    ((keeps_trips (keeps_args condOps_writes (by decide +kernel) a h) (body_args a h) _ c 12000).trans (keepsL (pre_args a h) _))

/-- The reference ends with these contents, and with every counter at zero. -/
theorem reference_run : θ_run (defs (F := F)) (onTc (τ := τ) (main (F := F))) ⟨m, fun _ => 0, ρ⟩
    (fun r => (∀ (c : Dev nD) (b : Ref sig .tc), (Proc.devRef (τ := τ) .tc b).isScoped = false →
      r.2.mem ((c.tc : Thread nD τ).loc b) = refEnd m c (Proc.devRef .tc b)) ∧ r.2.sem = fun _ => 0) :=
  (θ_run defs _ _).mono (fun r h => ⟨h, sem_eq_zero_of_no_sems (by decide +kernel) r.2⟩) (run_fold m ρ)

end Cert.Keep

end
end
-- ==== Proof.TailBoxes.lean ====
/- From the anchors to the sorted boxes: stretches in which the two programs perform the same operations in the same order. -/
module

public import proofs.«01_k».proof.Proof.Tail

@[expose] public section

set_option maxRecDepth 16384

noncomputable section

namespace Cert.Tail

open Idealize.ShloMosaic Idealize.ShloMosaic.StableHlo Idealize.SL.Sem
open Cert.Lock Cert.KernelIdeal Cert.KernelIdeal.Gen

variable {F : FTy → Type} [FloatOps F]

/-- The anchors are decoded into boxes alike. -/
theorem decoded_lock : Lock atEntry [(main_v100, Cert.ReferenceIdeal.main_v99), (main_v103, Cert.ReferenceIdeal.main_v102), (main_v105, Cert.ReferenceIdeal.main_v104), (main_v158, Cert.ReferenceIdeal.main_v157), (main_v160, Cert.ReferenceIdeal.main_v159), (main_cst_29, Cert.ReferenceIdeal.main_cst_14), (main_cst, Cert.ReferenceIdeal.main_cst), (main_v80, Cert.ReferenceIdeal.main_v70), (main_v81, Cert.ReferenceIdeal.main_v96)]
    (hostOps1 (F := F)) ((Cert.ReferenceIdeal.Gen.hostOps0_8 (F := F)).drop 29) := by
  simp only [List.drop_succ_cons, List.drop_zero]
  refine Lock.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

/-- The boxes are clipped to the image alike. -/
theorem clipped_lock : Locks [(main_v100, Cert.ReferenceIdeal.main_v99), (main_v103, Cert.ReferenceIdeal.main_v102), (main_v105, Cert.ReferenceIdeal.main_v104), (main_v158, Cert.ReferenceIdeal.main_v157), (main_v160, Cert.ReferenceIdeal.main_v159), (main_cst_29, Cert.ReferenceIdeal.main_cst_14), (main_cst, Cert.ReferenceIdeal.main_cst), (main_v80, Cert.ReferenceIdeal.main_v70), (main_v81, Cert.ReferenceIdeal.main_v96)] atCols
    [hostOps1_1 (F := F), hostOps1_2, hostOps1_3, hostOps1_4, hostOps1_5, hostOps1_6, hostOps1_7]
    [Cert.ReferenceIdeal.Gen.hostOps0_9 (F := F), Cert.ReferenceIdeal.Gen.hostOps0_10, Cert.ReferenceIdeal.Gen.hostOps0_11, Cert.ReferenceIdeal.Gen.hostOps0_12, Cert.ReferenceIdeal.Gen.hostOps0_13,
      Cert.ReferenceIdeal.Gen.hostOps0_14, Cert.ReferenceIdeal.Gen.hostOps0_15] := by
  refine Locks.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

/-- The scores of small boxes are replaced, the boxes are sorted by score, and the loop's first contents are stored alike. -/
theorem sorted_lock : Locks atBoxes atLoop
    [hostOps1_9 (F := F), hostOps1_10, hostOps1_11, hostOps1_12]
    [Cert.ReferenceIdeal.Gen.hostOps0_17 (F := F), Cert.ReferenceIdeal.Gen.hostOps0_18, Cert.ReferenceIdeal.Gen.hostOps0_19, Cert.ReferenceIdeal.Gen.hostOps0_20] := by
  refine Locks.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

end Cert.Tail
-- ==== Proof.TailSize.lean ====
/- Which boxes are large enough. The two programs perform the same operations here, but not in the same order: the reference
   takes both differences before it compares the first. -/
module

public import proofs.«01_k».proof.Proof.Tail
public import Idealize.ShloMosaic.Lib.StableHlo.RunClose

@[expose] public section

set_option maxRecDepth 16384

noncomputable section

namespace Cert.Tail

open Idealize.ShloMosaic Idealize.ShloMosaic.StableHlo Idealize.SL.Sem
open Cert.Lock Cert.KernelIdeal Cert.KernelIdeal.Gen

variable {F : FTy → Type} [FloatOps F]

/-- The columns joined and the widths taken. -/
abbrev atWidths : Pairs sig Cert.ReferenceIdeal.sig :=
  [(main_v105, Cert.ReferenceIdeal.main_v104), (main_v164, Cert.ReferenceIdeal.main_v163), (main_v170, Cert.ReferenceIdeal.main_v169), (main_v175, Cert.ReferenceIdeal.main_v174), (main_v176, Cert.ReferenceIdeal.main_v175), (main_cst, Cert.ReferenceIdeal.main_cst), (main_v80, Cert.ReferenceIdeal.main_v70), (main_v81, Cert.ReferenceIdeal.main_v96)]

/-- The columns are joined and the widths are taken on both sides alike. -/
theorem widths_lock : Lock atCols atWidths ((hostOps1_8 (F := F)).take 6) ((Cert.ReferenceIdeal.Gen.hostOps0_16 (F := F)).take 6) := by
  simp only [List.take_succ_cons, List.take_zero]
  refine Lock.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

/-- What both programs compute of widths, bottoms and tops: whether width and height are at least the least size. -/
abbrev large (w y₁ y₀ : S22500.Idx → F .f32) : S22500.Idx → BitVec 1 :=
  andi (cmpf .oge w (broadcastInDim S22500 ![] bcast_S_S22500 (constant S_ .f32 0x41800000#32)))
    (cmpf .oge (subf y₁ y₀) (broadcastInDim S22500 ![] bcast_S_S22500 (constant S_ .f32 0x41800000#32)))

/-- The kernel's test of width and height. -/
theorem kernel_large (V : Valuation τ sig (Elt F)) :
    after ((hostOps1_8 (F := F)).drop 6) V (Proc.devRef .tc main_v182)
      = large (V (Proc.devRef .tc main_v176)) (V (Proc.devRef .tc main_v170)) (V (Proc.devRef .tc main_v164)) := by
  simp only [List.drop_succ_cons, List.drop_zero]
  after_results_simp
  all_goals rfl

/-- The reference's test of width and height. -/
theorem reference_large (W : Valuation Cert.ReferenceIdeal.τ Cert.ReferenceIdeal.sig (Elt F)) :
    after ((Cert.ReferenceIdeal.Gen.hostOps0_16 (F := F)).drop 6) W (Proc.devRef .tc Cert.ReferenceIdeal.main_v181)
      = large (W (Proc.devRef .tc Cert.ReferenceIdeal.main_v175)) (W (Proc.devRef .tc Cert.ReferenceIdeal.main_v169)) (W (Proc.devRef .tc Cert.ReferenceIdeal.main_v163)) := by
  simp only [List.drop_succ_cons, List.drop_zero]
  after_results_simp
  all_goals rfl

/-- The kernel leaves the joined boxes as they are. -/
theorem kernel_joined (V : Valuation τ sig (Elt F)) :
    after ((hostOps1_8 (F := F)).drop 6) V (Proc.devRef .tc main_v175) = V (Proc.devRef .tc main_v175) := by
  simp only [List.drop_succ_cons, List.drop_zero]
  after_results_simp

/-- The reference leaves the joined boxes as they are. -/
theorem reference_joined (W : Valuation Cert.ReferenceIdeal.τ Cert.ReferenceIdeal.sig (Elt F)) :
    after ((Cert.ReferenceIdeal.Gen.hostOps0_16 (F := F)).drop 6) W (Proc.devRef .tc Cert.ReferenceIdeal.main_v174)
      = W (Proc.devRef .tc Cert.ReferenceIdeal.main_v174) := by
  simp only [List.drop_succ_cons, List.drop_zero]
  after_results_simp

/-- The kernel stores minus infinity, the score of a box that is too small. -/
theorem kernel_least (V : Valuation τ sig (Elt F)) :
    after ((hostOps1_8 (F := F)).drop 6) V (Proc.devRef .tc main_cst_35) = constant S_ .f32 0xFF800000#32 := by
  simp only [List.drop_succ_cons, List.drop_zero]
  after_results_simp

/-- The reference stores minus infinity, too. -/
theorem reference_least (W : Valuation Cert.ReferenceIdeal.τ Cert.ReferenceIdeal.sig (Elt F)) :
    after ((Cert.ReferenceIdeal.Gen.hostOps0_16 (F := F)).drop 6) W (Proc.devRef .tc Cert.ReferenceIdeal.main_cst_20)
      = constant S_ .f32 0xFF800000#32 := by
  simp only [List.drop_succ_cons, List.drop_zero]
  after_results_simp

/-- What the second part of the stretch does not write on the kernel's side. -/
theorem kernel_same (V : Valuation τ sig (Elt F)) (r : Ref sig .tc) (hr : r ∉ hostOps1_8_W) :
    after ((hostOps1_8 (F := F)).drop 6) V (Proc.devRef .tc r) = V (Proc.devRef .tc r) :=
  after_of_writes_sub (W := hostOps1_8_W) _ V (List.forall_iff_forall_mem.mpr fun op ho =>
    List.forall_iff_forall_mem.mp hostOps1_8_writes op (List.mem_of_mem_drop ho)) hr

/-- What it does not write on the reference's side. -/
theorem reference_same (W : Valuation Cert.ReferenceIdeal.τ Cert.ReferenceIdeal.sig (Elt F)) (r : Ref Cert.ReferenceIdeal.sig .tc)
    (hr : r ∉ Cert.ReferenceIdeal.Value.hostOps0_16_W) :
    after ((Cert.ReferenceIdeal.Gen.hostOps0_16 (F := F)).drop 6) W (Proc.devRef .tc r) = W (Proc.devRef .tc r) :=
  after_of_writes_sub (W := Cert.ReferenceIdeal.Value.hostOps0_16_W) _ W (List.forall_iff_forall_mem.mpr fun op ho =>
    List.forall_iff_forall_mem.mp Cert.ReferenceIdeal.Value.hostOps0_16_writes op (List.mem_of_mem_drop ho)) hr

/-- The second part of the stretch carries the agreement on, whatever the order of its operations. -/
theorem sizes_lock : Lock atWidths atBoxes ((hostOps1_8 (F := F)).drop 6) ((Cert.ReferenceIdeal.Gen.hostOps0_16 (F := F)).drop 6) := by
  intro V W h
  have he₁ := h.has (a := main_v176) (a' := Cert.ReferenceIdeal.main_v175) (by decide +kernel)
  have e₁ : (V (Proc.devRef .tc main_v176) : S22500.Idx → F .f32) = W (Proc.devRef .tc Cert.ReferenceIdeal.main_v175) := eq_of_heq he₁
  have he₂ := h.has (a := main_v170) (a' := Cert.ReferenceIdeal.main_v169) (by decide +kernel)
  have e₂ : (V (Proc.devRef .tc main_v170) : S22500.Idx → F .f32) = W (Proc.devRef .tc Cert.ReferenceIdeal.main_v169) := eq_of_heq he₂
  have he₃ := h.has (a := main_v164) (a' := Cert.ReferenceIdeal.main_v163) (by decide +kernel)
  have e₃ : (V (Proc.devRef .tc main_v164) : S22500.Idx → F .f32) = W (Proc.devRef .tc Cert.ReferenceIdeal.main_v163) := eq_of_heq he₃
  have e₄ := h.has (a := main_v175) (a' := Cert.ReferenceIdeal.main_v174) (by decide +kernel)
  have hs₁ : ∀ p ∈ ((main_v105, Cert.ReferenceIdeal.main_v104) :: kept), p.1 ∉ hostOps1_8_W :=
    ListAll.forall_mem_of_all_decide (by decide +kernel)
  have hs₂ : ∀ p ∈ ((main_v105, Cert.ReferenceIdeal.main_v104) :: kept), p.2 ∉ Cert.ReferenceIdeal.Value.hostOps0_16_W :=
    ListAll.forall_mem_of_all_decide (by decide +kernel)
  have hk : sub atWidths ((main_v105, Cert.ReferenceIdeal.main_v104) :: kept) = true := by decide +kernel
  have k : Agree ((main_v105, Cert.ReferenceIdeal.main_v104) :: kept) (after (hostOps1_8.drop 6) V) (after (Cert.ReferenceIdeal.Gen.hostOps0_16.drop 6) W) := by
    intro p hp
    exact (heq_of_eq (kernel_same V p.1 (hs₁ p hp))).trans ((h.sub hk p hp).trans (heq_of_eq (reference_same W p.2 (hs₂ p hp)).symm))
  have a₁ := Agree.cons (a := main_v175) (a' := Cert.ReferenceIdeal.main_v174)
    ((heq_of_eq (kernel_joined V)).trans (e₄.trans (heq_of_eq (reference_joined W).symm))) k
  have a₂ := Agree.cons (a := main_v182) (a' := Cert.ReferenceIdeal.main_v181)
    ((heq_of_eq (kernel_large V)).trans (HEq.trans (heq_of_eq (by rw [e₁, e₂, e₃])) (heq_of_eq (reference_large W).symm))) a₁
  have a₃ := Agree.cons (a := main_cst_35) (a' := Cert.ReferenceIdeal.main_cst_20)
    ((heq_of_eq (kernel_least V)).trans (heq_of_eq (reference_least W).symm)) a₂
  exact a₃.sub (by decide +kernel)

/-- From the columns to the boxes that are large enough. -/
theorem large_lock : Lock atCols atBoxes (hostOps1_8 (F := F)) (Cert.ReferenceIdeal.Gen.hostOps0_16 (F := F)) := by
  intro V W h
  have := sizes_lock _ _ (widths_lock V W h)
  rwa [← after_append, ← after_append, List.take_append_drop, List.take_append_drop] at this

end Cert.Tail

end
end
-- ==== Proof.TailLoop.lean ====
/- The loop of non-maximum suppression and what follows it: the two programs perform the same operations in the same order. -/
module

public import proofs.«01_k».proof.Proof.Tail

@[expose] public section

set_option maxRecDepth 16384

noncomputable section

namespace Cert.Tail

open Idealize.ShloMosaic Idealize.ShloMosaic.StableHlo Idealize.SL.Sem
open Cert.Lock Cert.KernelIdeal Cert.KernelIdeal.Gen

variable {F : FTy → Type} [FloatOps F]

/-- The loop's condition is the same. -/
theorem condition_lock : Lock atLoop atLoop (condOps (F := F)) (Cert.ReferenceIdeal.Value.condOps (F := F)) := by
  refine Lock.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

set_option maxHeartbeats 8000000 in
/-- The overlaps of the trip's box with the others are computed alike. -/
theorem overlaps_lock : Lock atLoop atBody (while0Ops0 (F := F)) (Cert.ReferenceIdeal.Gen.while0Ops0 (F := F)) := by
  refine Lock.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

/-- The boxes that overlap too much are crossed out alike. -/
theorem suppression_lock : Locks atBody atLoop [while0Ops0_1 (F := F), while0Ops0_2, while0Ops0_3, while0Ops0_4]
    [Cert.ReferenceIdeal.Gen.while0Ops0_1 (F := F), Cert.ReferenceIdeal.Gen.while0Ops0_2, Cert.ReferenceIdeal.Gen.while0Ops0_3, Cert.ReferenceIdeal.Gen.while0Ops0_4] := by
  refine Locks.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

set_option maxHeartbeats 8000000 in
/-- After the loop the surviving boxes are gathered and the results stored alike. -/
theorem results_lock : Locks atLoop atEnd
    [hostOps1_13 (F := F), hostOps1_14, hostOps1_15, hostOps1_16, hostOps1_17, hostOps1_18, hostOps1_19, hostOps1_20, hostOps1_21,
      hostOps1_22]
    [Cert.ReferenceIdeal.Gen.hostOps0_21 (F := F), Cert.ReferenceIdeal.Gen.hostOps0_22, Cert.ReferenceIdeal.Gen.hostOps0_23, Cert.ReferenceIdeal.Gen.hostOps0_24, Cert.ReferenceIdeal.Gen.hostOps0_25,
      Cert.ReferenceIdeal.Gen.hostOps0_26, Cert.ReferenceIdeal.Gen.hostOps0_27, Cert.ReferenceIdeal.Gen.hostOps0_28, Cert.ReferenceIdeal.Gen.hostOps0_29, Cert.ReferenceIdeal.Gen.hostOps0_30] := by
  refine Locks.forget (M := ?M) ?_ ?_
  rotate_left
  all_goals repeat' first
    | with_reducible refine Lock.unary ?_ ?_ ?_ ?_ ?_ ?_
    | with_reducible refine Lock.binary ?_ ?_ ?_ ?_ ?_ ?_ ?_ ?_
    | with_reducible refine Lock.nullary ?_ ?_ ?_
    | with_reducible refine Lock.reshape ?_ ?_ ?_ ?_ ?_
    | with_reducible refine Lock.ternary ?_ ?_ ?_ ?_ ?_ ?_ ?_ ?_ ?_ ?_
    | with_reducible refine Lock.unaryIndexed ?_ ?_ ?_ ?_ ?_ ?_ ?_
    | with_reducible refine Lock.nary ?_ ?_ ?_ ?_
    | with_reducible exact Lock.done
    | with_reducible exact Locks.done
    | with_reducible refine Locks.cons (M := ?_) ?_ ?_
  all_goals first
    | with_reducible exact HEq.rfl
    | decide +kernel
    | exact HEq.rfl
    | rfl
    | exact fun u u' h => heq_of_eq (four (eq_of_heq (h 0)) (eq_of_heq (h 1)) (eq_of_heq (h 2)) (eq_of_heq (h 3)))

end Cert.Tail
-- ==== Proof.End.lean ====
/- The whole of both programs: from arguments that agree, they leave the same five results. -/
module

public import proofs.«01_k».proof.Proof.Start
public import proofs.«01_k».proof.Proof.Region
public import proofs.«01_k».proof.Proof.ReferenceArgs
public import proofs.«01_k».proof.Proof.TailBoxes
public import proofs.«01_k».proof.Proof.TailSize
public import proofs.«01_k».proof.Proof.TailLoop

@[expose] public section

set_option maxRecDepth 16384

noncomputable section

namespace Cert.End

open Idealize.ShloMosaic Idealize.ShloMosaic.StableHlo Idealize.SL.Sem
open Cert.Lock Cert.Keep Cert.Start Cert.Tail Cert.KernelIdeal Cert.KernelIdeal.Gen

/-- A list cut into four stretches. -/
theorem four_stretches.{u} {α : Type u} (l : List α) : l.take 11 ++ ((l.drop 11).take 17 ++ ((l.drop 28).take 1 ++ l.drop 29)) = l := by
  rw [show l.drop 29 = (l.drop 28).drop 1 from by rw [List.drop_drop], List.take_append_drop,
    show l.drop 28 = (l.drop 11).drop 17 from by rw [List.drop_drop], List.take_append_drop, List.take_append_drop]

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- One trip of the loop keeps the agreement. -/
theorem body_lock : Locks atLoop atLoop (bodyI (F := Ideal)) (Cert.ReferenceIdeal.Value.bodyI (F := Ideal)) :=
  fun V W h => suppression_lock _ _ (overlaps_lock V W h)

/-- What the reference has computed before the boxes. -/
abbrev rEntry (W : Valuation Cert.ReferenceIdeal.τ Cert.ReferenceIdeal.sig (Elt Ideal)) : Valuation Cert.ReferenceIdeal.τ Cert.ReferenceIdeal.sig (Elt Ideal) :=
  after ((Cert.ReferenceIdeal.Gen.hostOps0_8.drop 28).take 1) (rSoftmax W)

/-- The stretch in which the reference computes scores, softmax and the first of the boxes, put together again. -/
theorem rEntry_boxes (W : Valuation Cert.ReferenceIdeal.τ Cert.ReferenceIdeal.sig (Elt Ideal)) :
    after (Cert.ReferenceIdeal.Gen.hostOps0_8.drop 29) (rEntry W)
      = after Cert.ReferenceIdeal.Gen.hostOps0_8 (after Cert.ReferenceIdeal.Gen.hostOps0_7 (rLocs W)) := by
  have h : rHeads W = after (Cert.ReferenceIdeal.Gen.hostOps0_8.take 11) (after Cert.ReferenceIdeal.Gen.hostOps0_7 (rLocs W)) := rfl
  unfold rEntry rSoftmax
  rw [h, ← after_append, ← after_append, ← after_append, four_stretches]

/-- At the loop's entry the programs agree. -/
theorem loop_entry_agree (c : Dev nD) (h : Agree atLaunch (W0 m ρ c) (launchContents m' c)) :
    Agree atLoop (Went m ρ c) (entryContents Cert.ReferenceIdeal.Value.preI m' c) := by
  have a₀ := entry_agree (W0 m ρ c) (launchContents m' c) h (W6 m ρ c) (copied m ρ c) (not_copied m ρ c)
  have a₁ := decoded_lock _ _ a₀
  rw [show after (Cert.ReferenceIdeal.Gen.hostOps0_8.drop 29) _ = _ from rEntry_boxes (launchContents m' c)] at a₁
  exact sorted_lock _ _ (large_lock _ _ (clipped_lock _ _ a₁))

/-- The five results are the same. -/
theorem results_agree (c : Dev nD) (h : Agree atLaunch (W0 m ρ c) (launchContents m' c)) : Agree atEnd (WN m ρ c) (refEnd m' c) := by
  have a := atTrip_agree condition_lock body_lock (Went m ρ) (entryContents Cert.ReferenceIdeal.Value.preI m') c c (loop_entry_agree m ρ m' c h) 12000
  exact results_lock _ _ (condition_lock _ _ a)

end Cert.End

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.End
public import Idealize.ShloMosaic.Adequacy
public import Idealize.ShloMosaic.Init

@[expose] public section

set_option maxRecDepth 16384

noncomputable section

namespace Cert.Proof

open Idealize.ShloMosaic Idealize.ShloMosaic.StableHlo Idealize.SL.Sem Cert.Keep Cert.Start Cert.Tail Cert.End

section Reference

open Cert.ReferenceIdeal

variable (m : (ℓ : Loc nD τ sig) → Buf (Elt Ideal) ℓ) (c : Dev nD)

/-- The reference's arguments are as they were at launch. -/
abbrev ArgsKept (mem : (ℓ : Loc nD τ sig) → Buf (Elt Ideal) ℓ) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)

/-- Contents that are the reference's last ones keep the arguments. -/
theorem args_kept (mem : (ℓ : Loc nD τ sig) → Buf (Elt Ideal) ℓ)
    (h : ∀ (c : Dev nD) (b : Ref sig .tc), (Proc.devRef (τ := τ) .tc b).isScoped = false →
      mem ((c.tc : Thread nD τ).loc b) = refEnd m c (Proc.devRef .tc b)) : ArgsKept m c mem :=
  have k : ∀ a ∈ args, (Proc.devRef (τ := τ) .tc a).isScoped = false → mem ((c.tc : Thread nD τ).loc a) = m ((c.tc : Thread nD τ).loc a) :=
    fun a ha hs => (h c a hs).trans (refEnd_args m a ha c)
  ⟨k main_arg0 (by decide) rfl, k main_arg1 (by decide) rfl, k main_arg2 (by decide) rfl, k main_arg3 (by decide) rfl, k main_arg4 (by decide) rfl, k main_arg5 (by decide) rfl, k main_arg6 (by decide) rfl, k main_arg7 (by decide) rfl⟩

/-- The reference keeps its arguments and ends with every counter at zero. -/
theorem reference_frame : Cert.quiescent_ReferenceIdeal (hReferenceIdeal := Cert.ReferenceIdeal.Gen.facts) := fun m ρ _ =>
  (θ_run _ _ _).mono (fun r h => ⟨fun c => args_kept m c r.2.mem h.1, h.2⟩) (reference_run m ρ)

end Reference

open Cert.KernelIdeal Cert.KernelIdeal.Gen in
/-- From equal arguments the kernel and the reference leave the same five results. -/
theorem same_results : Cert.algebraic_KernelIdeal_ReferenceIdeal (hKernelIdeal := Cert.KernelIdeal.Gen.facts)
    (hReferenceIdeal := Cert.ReferenceIdeal.Gen.facts) := by
  intro m g m' g' _ e
  have e₀ : ∀ c : Dev nD, Cert.Lock.Agree atLaunch (W0 m g c) (launchContents m' c) := fun c => by
    obtain ⟨e0, e1, e2, e3, e4, e5, e6, e7⟩ := e c
    exact .cons (heq_of_eq e0.symm) <| .cons (heq_of_eq e1.symm) <| .cons (heq_of_eq e2.symm) <| .cons (heq_of_eq e3.symm) <| .cons (heq_of_eq e4.symm) <| .cons (heq_of_eq e5.symm) <| .cons (heq_of_eq e6.symm) <| .cons (heq_of_eq e7.symm) fun _ h => nomatch h
  have a := fun c : Dev nD => results_agree m g m' c (e₀ c)
  refine ⟨fun c => WN m g c (Proc.devRef .tc main_v80), fun c => WN m g c (Proc.devRef .tc main_v81),
    fun c => WN m g c (Proc.devRef .tc main_v244), fun c => WN m g c (Proc.devRef .tc main_v245),
    fun c => WN m g c (Proc.devRef .tc main_cst), ?_, ?_⟩
  · refine (θ_run _ _ _).mono (fun r h c => ?_) (run_main m g)
    exact ⟨h c _ (mem_uc main_v80 (by decide)), h c _ (mem_uc main_v81 (by decide)), h c _ (mem_uc main_v244 (by decide)),
      h c _ (mem_uc main_v245 (by decide)), h c _ (mem_uc main_cst (by decide)),
      (h c _ (mem_uc main_arg0 (by decide))).trans (WN_main_arg0 m g c),
      (h c _ (mem_uc main_arg1 (by decide))).trans (WN_main_arg1 m g c),
      (h c _ (mem_uc main_arg2 (by decide))).trans (WN_main_arg2 m g c),
      (h c _ (mem_uc main_arg3 (by decide))).trans (WN_main_arg3 m g c),
      (h c _ (mem_uc main_arg4 (by decide))).trans (WN_main_arg4 m g c),
      (h c _ (mem_uc main_arg5 (by decide))).trans (WN_main_arg5 m g c),
      (h c _ (mem_uc main_arg6 (by decide))).trans (WN_main_arg6 m g c),
      (h c _ (mem_uc main_arg7 (by decide))).trans (WN_main_arg7 m g c)⟩
  · refine (θ_run _ _ _).mono (fun r h c => ?_) (reference_run m' g')
    have q₀ := (a c).has (a := main_v80) (a' := Cert.ReferenceIdeal.main_v70) (by decide +kernel)
    have q₁ := (a c).has (a := main_v81) (a' := Cert.ReferenceIdeal.main_v96) (by decide +kernel)
    have q₂ := (a c).has (a := main_v244) (a' := Cert.ReferenceIdeal.main_v243) (by decide +kernel)
    have q₃ := (a c).has (a := main_v245) (a' := Cert.ReferenceIdeal.main_v244) (by decide +kernel)
    have q₄ := (a c).has (a := main_cst) (a' := Cert.ReferenceIdeal.main_cst) (by decide +kernel)
    exact ⟨(h.1 c Cert.ReferenceIdeal.main_v70 rfl).trans (eq_of_heq q₀).symm, (h.1 c Cert.ReferenceIdeal.main_v96 rfl).trans (eq_of_heq q₁).symm,
      (h.1 c Cert.ReferenceIdeal.main_v243 rfl).trans (eq_of_heq q₂).symm, (h.1 c Cert.ReferenceIdeal.main_v244 rfl).trans (eq_of_heq q₃).symm,
      (h.1 c Cert.ReferenceIdeal.main_cst rfl).trans (eq_of_heq q₄).symm, args_kept m' c r.2.mem h.1⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_results⟩

end Cert.Proof

end
